-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x128x3584 : Shape := ⟨3, ![1, 128, 3584]⟩
abbrev S18944x224 : Shape := ⟨2, ![18944, 224]⟩
abbrev S18944 : Shape := ⟨1, ![18944]⟩
abbrev S3584 : Shape := ⟨1, ![3584]⟩
abbrev S_ : Shape := ⟨0, ![]⟩

class Facts : Prop where
  bcast_S_S1x128x3584 : S_.BroadcastsInDim S1x128x3584 (![] : Fin 0 → Fin S1x128x3584.rank)
  bcast_S_S18944 : S_.BroadcastsInDim S18944 (![] : Fin 0 → Fin S18944.rank)
  bcast_S_S3584 : S_.BroadcastsInDim S3584 (![] : Fin 0 → Fin S3584.rank)

variable [Facts]

def fn {F : FTy → Type} [FloatOps F] (main_arg0 : FVec F S1x128x3584 .bf16) (main_arg1 : IVec S18944x224 32) (main_arg2 : FVec F S18944 .f32) (main_arg3 : FVec F S3584 .f32) (main_arg4 : FVec F S18944 .f32) : IVec S1x128x3584 1 × IVec S18944 1 × IVec S3584 1 :=
  let main_v0 : FVec F S1x128x3584 .bf16 := Host.absf main_arg0
  let main_cst : FVec F S_ .bf16 := constant S_ .bf16 0x7F80#16
  let main_v1 : FVec F S1x128x3584 .bf16 := broadcastInDim S1x128x3584 ![] bcast_S_S1x128x3584 main_cst
  let main_v2 : IVec S1x128x3584 1 := cmpf .olt main_v0 main_v1
  let main_v3 : FVec F S18944 .f32 := Host.absf main_arg2
  let main_cst_0 : FVec F S_ .f32 := constant S_ .f32 0x7F800000#32
  let main_v4 : FVec F S18944 .f32 := broadcastInDim S18944 ![] bcast_S_S18944 main_cst_0
  let main_v5 : IVec S18944 1 := cmpf .olt main_v3 main_v4
  let main_v6 : FVec F S3584 .f32 := Host.absf main_arg3
  let main_cst_1 : FVec F S_ .f32 := constant S_ .f32 0x7F800000#32
  let main_v7 : FVec F S3584 .f32 := broadcastInDim S3584 ![] bcast_S_S3584 main_cst_1
  let main_v8 : IVec S3584 1 := cmpf .olt main_v6 main_v7
  (main_v2, main_v5, main_v8)
-- ==== Kernel.lean ====
abbrev S1x128x3584 : Shape := ⟨3, ![1, 128, 3584]⟩
abbrev S18944x224 : Shape := ⟨2, ![18944, 224]⟩
abbrev S18944 : Shape := ⟨1, ![18944]⟩
abbrev S3584 : Shape := ⟨1, ![3584]⟩
abbrev S256x256 : Shape := ⟨2, ![256, 256]⟩
abbrev S128x3584 : Shape := ⟨2, ![128, 3584]⟩
abbrev S1x3584 : Shape := ⟨2, ![1, 3584]⟩
abbrev S128x256 : Shape := ⟨2, ![128, 256]⟩
abbrev S1x256 : Shape := ⟨2, ![1, 256]⟩
abbrev S1x18944 : Shape := ⟨2, ![1, 18944]⟩
abbrev S128x18944 : Shape := ⟨2, ![128, 18944]⟩
abbrev S256x224 : Shape := ⟨2, ![256, 224]⟩
abbrev S224x256 : Shape := ⟨2, ![224, 256]⟩
abbrev S16x256 : Shape := ⟨2, ![16, 256]⟩
abbrev S1x128x18944 : Shape := ⟨3, ![1, 128, 18944]⟩

abbrev nBuf : Space → Nat
  | .hbm => 17
  | .vmem => 20
  | .smem => 0
  | _ => 0

abbrev bufTy : (tb : Table) → Fin (tcTables nBuf tb) → BufTy
  | .hbm, ⟨0, _⟩ => ⟨S1x128x3584, .bf16⟩
  | .hbm, ⟨1, _⟩ => ⟨S18944x224, .i32⟩
  | .hbm, ⟨2, _⟩ => ⟨S18944, .f32⟩
  | .hbm, ⟨3, _⟩ => ⟨S3584, .f32⟩
  | .hbm, ⟨4, _⟩ => ⟨S18944, .f32⟩
  | .hbm, ⟨5, _⟩ => ⟨S256x256, .bf16⟩
  | .hbm, ⟨6, _⟩ => ⟨S256x256, .bf16⟩
  | .hbm, ⟨7, _⟩ => ⟨S128x3584, .bf16⟩
  | .hbm, ⟨8, _⟩ => ⟨S1x3584, .f32⟩
  | .hbm, ⟨9, _⟩ => ⟨S128x3584, .bf16⟩
  | .hbm, ⟨10, _⟩ => ⟨S128x3584, .bf16⟩
  | .hbm, ⟨11, _⟩ => ⟨S18944x224, .i32⟩
  | .hbm, ⟨12, _⟩ => ⟨S1x18944, .f32⟩
  | .hbm, ⟨13, _⟩ => ⟨S1x18944, .f32⟩
  | .hbm, ⟨14, _⟩ => ⟨S128x18944, .bf16⟩
  | .hbm, ⟨15, _⟩ => ⟨S1x128x18944, .bf16⟩
  | .hbm, ⟨16, _⟩ => ⟨S1x128x3584, .bf16⟩
  | .local _ .vmem, ⟨0, _⟩ => ⟨S128x256, .bf16⟩
  | .local _ .vmem, ⟨1, _⟩ => ⟨S128x256, .bf16⟩
  | .local _ .vmem, ⟨2, _⟩ => ⟨S1x256, .f32⟩
  | .local _ .vmem, ⟨3, _⟩ => ⟨S1x256, .f32⟩
  | .local _ .vmem, ⟨4, _⟩ => ⟨S256x256, .bf16⟩
  | .local _ .vmem, ⟨5, _⟩ => ⟨S256x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x3584, .bf16⟩
  | .local _ .vmem, ⟨11, _⟩ => ⟨S256x224, .i32⟩
  | .local _ .vmem, ⟨12, _⟩ => ⟨S256x224, .i32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x256, .bf16⟩
  | .local _ .vmem, ⟨18, _⟩ => ⟨S128x256, .bf16⟩
  | .local _ .vmem, ⟨19, _⟩ => ⟨S128x256, .bf16⟩
  | _, _ => ⟨S1x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![74], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x3584 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x224 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S1x128x3584 : Shape := ⟨3, ![1, 128, 3584]⟩
abbrev S18944x224 : Shape := ⟨2, ![18944, 224]⟩
abbrev S18944 : Shape := ⟨1, ![18944]⟩
abbrev S3584 : Shape := ⟨1, ![3584]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x1x3584 : Shape := ⟨3, ![1, 1, 3584]⟩
abbrev S1x128x14x256 : Shape := ⟨4, ![1, 128, 14, 256]⟩
abbrev S18944x14x16 : Shape := ⟨3, ![18944, 14, 16]⟩
abbrev S18944x14x15 : Shape := ⟨3, ![18944, 14, 15]⟩
abbrev S18944x14x1 : Shape := ⟨3, ![18944, 14, 1]⟩
abbrev S16 : Shape := ⟨1, ![16]⟩
abbrev S1x1x16 : Shape := ⟨3, ![1, 1, 16]⟩
abbrev S18944x224x1 : Shape := ⟨3, ![18944, 224, 1]⟩
abbrev S18944x224x16 : Shape := ⟨3, ![18944, 224, 16]⟩
abbrev S18944x3584 : Shape := ⟨2, ![18944, 3584]⟩
abbrev S1x128x18944 : Shape := ⟨3, ![1, 128, 18944]⟩
abbrev S1x1x18944 : Shape := ⟨3, ![1, 1, 18944]⟩
abbrev S1x128x74x256 : Shape := ⟨4, ![1, 128, 74, 256]⟩

abbrev nBuf : Space → Nat
  | .hbm => 134
  | .vmem => 0
  | .smem => 0
  | _ => 0

abbrev hbmTy0_0 (i : Nat) : BufTy := match i % 128 with
  | 0 => ⟨S1x128x3584, .bf16⟩
  | 1 => ⟨S18944x224, .i32⟩
  | 2 => ⟨S18944, .f32⟩
  | 3 => ⟨S3584, .f32⟩
  | 4 => ⟨S18944, .f32⟩
  | 5 => ⟨S256, .i32⟩
  | 6 => ⟨S256x1, .i32⟩
  | 7 => ⟨S1x256, .i32⟩
  | 8 => ⟨S256x256, .i32⟩
  | 9 => ⟨S256x256, .i32⟩
  | 10 => ⟨S256x256, .i32⟩
  | 11 => ⟨S256x256, .i32⟩
  | 12 => ⟨S_, .i32⟩
  | 13 => ⟨S256x256, .i32⟩
  | 14 => ⟨S256x256, .i32⟩
  | 15 => ⟨S256x256, .f32⟩
  | 16 => ⟨S_, .f32⟩
  | 17 => ⟨S256x256, .f32⟩
  | 18 => ⟨S256x256, .f32⟩
  | 19 => ⟨S_, .f32⟩
  | 20 => ⟨S256x256, .f32⟩
  | 21 => ⟨S256x256, .f32⟩
  | 22 => ⟨S1x128x3584, .f32⟩
  | 23 => ⟨S1x1x3584, .f32⟩
  | 24 => ⟨S1x128x3584, .f32⟩
  | 25 => ⟨S1x128x3584, .f32⟩
  | 26 => ⟨S1x128x14x256, .f32⟩
  | 27 => ⟨S1x128x14x256, .f32⟩
  | 28 => ⟨S_, .f32⟩
  | 29 => ⟨S1x128x14x256, .f32⟩
  | 30 => ⟨S1x128x14x256, .f32⟩
  | 31 => ⟨S1x128x3584, .f32⟩
  | 32 => ⟨S1x128x3584, .bf16⟩
  | 33 => ⟨S18944x14x16, .i32⟩
  | 34 => ⟨S18944x14x15, .i32⟩
  | 35 => ⟨S18944x14x1, .i32⟩
  | 36 => ⟨S18944x14x16, .i32⟩
  | 37 => ⟨S18944x224, .i32⟩
  | 38 => ⟨S16, .i32⟩
  | 39 => ⟨S_, .i32⟩
  | 40 => ⟨S16, .i32⟩
  | 41 => ⟨S16, .i32⟩
  | 42 => ⟨S1x1x16, .i32⟩
  | 43 => ⟨S18944x224x1, .i32⟩
  | 44 => ⟨S18944x224x16, .i32⟩
  | 45 => ⟨S18944x224x16, .i32⟩
  | 46 => ⟨S18944x224x16, .i32⟩
  | 47 => ⟨S_, .i32⟩
  | 48 => ⟨S1x1x16, .i32⟩
  | 49 => ⟨S1x1x16, .i1⟩
  | 50 => ⟨S18944x224x1, .i32⟩
  | 51 => ⟨S_, .i32⟩
  | 52 => ⟨S1x1x16, .i32⟩
  | 53 => ⟨S1x1x16, .i32⟩
  | 54 => ⟨S18944x224x16, .i32⟩
  | 55 => ⟨S18944x224x16, .i32⟩
  | 56 => ⟨S18944x224x16, .i32⟩
  | 57 => ⟨S_, .i32⟩
  | 58 => ⟨S18944x224x16, .i1⟩
  | 59 => ⟨S18944x224x16, .i32⟩
  | 60 => ⟨S18944x224x16, .i32⟩
  | 61 => ⟨S18944x224x16, .i32⟩
  | 62 => ⟨S_, .i32⟩
  | 63 => ⟨S18944x224x16, .i32⟩
  | 64 => ⟨S18944x224x16, .i32⟩
  | 65 => ⟨S_, .i32⟩
  | 66 => ⟨S18944x224x16, .i32⟩
  | 67 => ⟨S18944x224x16, .i32⟩
  | 68 => ⟨S_, .i32⟩
  | 69 => ⟨S18944x224x16, .i32⟩
  | 70 => ⟨S18944x224x16, .i32⟩
  | 71 => ⟨S_, .i32⟩
  | 72 => ⟨S18944x224x16, .i32⟩
  | 73 => ⟨S18944x224x16, .i32⟩
  | 74 => ⟨S_, .i32⟩
  | 75 => ⟨S18944x224x16, .i32⟩
  | 76 => ⟨S18944x224x16, .i32⟩
  | 77 => ⟨S_, .i32⟩
  | 78 => ⟨S18944x224x16, .i32⟩
  | 79 => ⟨S18944x224x16, .i32⟩
  | 80 => ⟨S_, .i32⟩
  | 81 => ⟨S18944x224x16, .i32⟩
  | 82 => ⟨S18944x224x16, .i32⟩
  | 83 => ⟨S_, .i32⟩
  | 84 => ⟨S18944x224x16, .i32⟩
  | 85 => ⟨S18944x224x16, .i32⟩
  | 86 => ⟨S_, .i32⟩
  | 87 => ⟨S18944x224x16, .i32⟩
  | 88 => ⟨S18944x224x16, .i32⟩
  | 89 => ⟨S_, .i32⟩
  | 90 => ⟨S18944x224x16, .i32⟩
  | 91 => ⟨S18944x224x16, .i32⟩
  | 92 => ⟨S_, .i32⟩
  | 93 => ⟨S18944x224x16, .i32⟩
  | 94 => ⟨S18944x224x16, .i32⟩
  | 95 => ⟨S18944x224x16, .i32⟩
  | 96 => ⟨S18944x224x16, .f32⟩
  | 97 => ⟨S_, .i32⟩
  | 98 => ⟨S18944x224x16, .i32⟩
  | 99 => ⟨S18944x224x16, .i32⟩
  | 100 => ⟨S_, .i32⟩
  | 101 => ⟨S18944x224x16, .i32⟩
  | 102 => ⟨S18944x224x16, .i32⟩
  | 103 => ⟨S_, .i32⟩
  | 104 => ⟨S18944x224x16, .i32⟩
  | 105 => ⟨S18944x224x16, .i32⟩
  | 106 => ⟨S_, .i32⟩
  | 107 => ⟨S18944x224x16, .i32⟩
  | 108 => ⟨S18944x224x16, .i32⟩
  | 109 => ⟨S_, .i32⟩
  | 110 => ⟨S18944x224x16, .i32⟩
  | 111 => ⟨S18944x224x16, .i32⟩
  | 112 => ⟨S_, .i32⟩
  | 113 => ⟨S18944x224x16, .i32⟩
  | 114 => ⟨S18944x224x16, .i32⟩
  | 115 => ⟨S18944x224x16, .i32⟩
  | 116 => ⟨S18944x224x16, .f32⟩
  | 117 => ⟨S18944x224x16, .f32⟩
  | 118 => ⟨S18944x224x16, .bf16⟩
  | 119 => ⟨S18944x3584, .bf16⟩
  | 120 => ⟨S1x128x18944, .f32⟩
  | 121 => ⟨S1x1x18944, .f32⟩
  | 122 => ⟨S1x128x18944, .f32⟩
  | 123 => ⟨S1x128x18944, .f32⟩
  | 124 => ⟨S1x128x74x256, .f32⟩
  | 125 => ⟨S1x128x74x256, .f32⟩
  | 126 => ⟨S_, .f32⟩
  | 127 => ⟨S1x128x74x256, .f32⟩
  | _ => ⟨S1x128x3584, .bf16⟩

abbrev hbmTy0_1 (i : Nat) : BufTy := match i % 128 with
  | 0 => ⟨S1x128x74x256, .f32⟩
  | 1 => ⟨S1x128x18944, .f32⟩
  | 2 => ⟨S1x1x18944, .f32⟩
  | 3 => ⟨S1x128x18944, .f32⟩
  | 4 => ⟨S1x128x18944, .f32⟩
  | 5 => ⟨S1x128x18944, .bf16⟩
  | _ => ⟨S1x128x3584, .bf16⟩

abbrev hbmTy (i : Nat) : BufTy := match i / 128 with
  | 0 => hbmTy0_0 i
  | 1 => hbmTy0_1 i
  | _ => ⟨S1x128x3584, .bf16⟩

abbrev bufTy : (tb : Table) → Fin (tcTables nBuf tb) → BufTy
  | .hbm, ⟨i, _⟩ => hbmTy i
  | _, _ => ⟨S1x128x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_call1_v0 : Ref sig .tc := ⟨.hbm, 58, rfl⟩
abbrev main_call1_v1 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_c_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_17 : Ref sig .tc := ⟨.hbm, 97, rfl⟩
abbrev main_v69 : Ref sig .tc := ⟨.hbm, 98, rfl⟩
abbrev main_v70 : Ref sig .tc := ⟨.hbm, 99, rfl⟩
abbrev main_c_18 : Ref sig .tc := ⟨.hbm, 100, rfl⟩
abbrev main_v71 : Ref sig .tc := ⟨.hbm, 101, rfl⟩
abbrev main_v72 : Ref sig .tc := ⟨.hbm, 102, rfl⟩
abbrev main_c_19 : Ref sig .tc := ⟨.hbm, 103, rfl⟩
abbrev main_v73 : Ref sig .tc := ⟨.hbm, 104, rfl⟩
abbrev main_v74 : Ref sig .tc := ⟨.hbm, 105, rfl⟩
abbrev main_c_20 : Ref sig .tc := ⟨.hbm, 106, rfl⟩
abbrev main_v75 : Ref sig .tc := ⟨.hbm, 107, rfl⟩
abbrev main_v76 : Ref sig .tc := ⟨.hbm, 108, rfl⟩
abbrev main_c_21 : Ref sig .tc := ⟨.hbm, 109, rfl⟩
abbrev main_v77 : Ref sig .tc := ⟨.hbm, 110, rfl⟩
abbrev main_v78 : Ref sig .tc := ⟨.hbm, 111, rfl⟩
abbrev main_c_22 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_23 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== Proof.RefStep.lean ====
/- The reference's results, in named steps. -/
module

public import proofs.«01_k».proof.Proof.Gen.ReferenceIdeal.Run
public import Idealize.ShloMosaic.PureOps.Ideal

@[expose] public section

noncomputable section

namespace Cert.Trellis.Ref

open Cert.ReferenceIdeal Cert.ReferenceIdeal.Gen Cert.ReferenceIdeal.Value Idealize.ShloMosaic Idealize.ShloMosaic.TcCoe Idealize.SL.Sem

variable {F : FTy → Type} [FloatOps F]

/-- The 256 × 256 Hadamard matrix. -/
def had : FVec F S256x256 .f32 :=
  subf (broadcastInDim S256x256 ![] bcast_S_S256x256 (constant S_ .f32 0x3F800000#32)) (mulf (broadcastInDim S256x256 ![] bcast_S_S256x256 (constant S_ .f32 0x40000000#32)) (uitofp .f32 (andi (ctpop (andi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 1#32)))))

/-- The rotated activations, for a given matrix. -/
def xr (x : FVec F S1x128x3584 .bf16) (su : FVec F S3584 .f32) (h : FVec F S256x256 .f32) : FVec F S1x128x3584 .bf16 :=
  truncf .bf16 (shapeCast _ (mulf (Host.dotGeneral dot_S1x128x14x256_S256x256_S1x128x14x256_3_1_012_0_n_n (some .fp32) (shapeCast _ (mulf (extf .f32 x bitsLt_bf16_f32) (broadcastInDim S1x128x3584 ![0, 1, 2] bcast_S1x1x3584_S1x128x3584_0_1_2 (broadcastInDim S1x1x3584 ![2] bcast_S3584_S1x1x3584_2 su))) shapeCasts_S1x128x3584_S1x128x14x256) h) (broadcastInDim S1x128x14x256 ![] bcast_S_S1x128x14x256 (constant S_ .f32 0x3D800000#32))) shapeCasts_S1x128x14x256_S1x128x3584) bitsLt_bf16_f32

/-- The bit offsets of the fields. -/
def offs : IVec S1x1x16 32 :=
  broadcastInDim S1x1x16 ![2] bcast_S16_S1x1x16_2 (muli (broadcastInDim S16 ![] bcast_S_S16 (constantI S_ 32 2#32)) (iotaInDim S16 32 0))

/-- Each word's successor in its ring. -/
def next (codes : IVec S18944x224 32) : IVec S18944x224 32 :=
  shapeCast _ (concatenate S18944x14x16 2 [⟨S18944x14x15, (extractStridedSlice S18944x14x15 ![0, 0, 1] (shapeCast _ codes shapeCasts_S18944x224_S18944x14x16) slices_S18944x14x16_S18944x14x15_0_0_1)⟩, ⟨S18944x14x1, (extractStridedSlice S18944x14x1 ![0, 0, 0] (shapeCast _ codes shapeCasts_S18944x224_S18944x14x16) slices_S18944x14x16_S18944x14x1_0_0_0)⟩] concatenates_S18944x14x15_S18944x14x1_S18944x14x16_d2) shapeCasts_S18944x14x16_S18944x224

/-- The states of all fields, from the words, their successors and the bit offsets. -/
def states (codes nxt : IVec S18944x224 32) (o : IVec S1x1x16 32) : IVec S18944x224x16 32 :=
  andi (ori (Host.shrui (broadcastInDim S18944x224x16 ![0, 1, 2] bcast_S18944x224x1_S18944x224x16_0_1_2 (broadcastInDim S18944x224x1 ![0, 1] bcast_S18944x224_S18944x224x1_0_1 codes)) (broadcastInDim S18944x224x16 ![0, 1, 2] bcast_S1x1x16_S18944x224x16_0_1_2 o)) (select (broadcastInDim S18944x224x16 ![0, 1, 2] bcast_S1x1x16_S18944x224x16_0_1_2 (cmpi .eq o (broadcastInDim S1x1x16 ![] bcast_S_S1x1x16 (constantI S_ 32 0#32)))) (broadcastInDim S18944x224x16 ![] bcast_S_S18944x224x16 (constantI S_ 32 0#32)) (Host.shli (broadcastInDim S18944x224x16 ![0, 1, 2] bcast_S18944x224x1_S18944x224x16_0_1_2 (broadcastInDim S18944x224x1 ![0, 1] bcast_S18944x224_S18944x224x1_0_1 nxt)) (broadcastInDim S18944x224x16 ![0, 1, 2] bcast_S1x1x16_S18944x224x16_0_1_2 (subi (broadcastInDim S1x1x16 ![] bcast_S_S1x1x16 (constantI S_ 32 32#32)) o))))) (broadcastInDim S18944x224x16 ![] bcast_S_S18944x224x16 (constantI S_ 32 65535#32))

/-- A constant word everywhere. -/
def word (w : BitVec 32) : IVec S18944x224x16 32 := broadcastInDim S18944x224x16 ![] bcast_S_S18944x224x16 (constantI S_ 32 w)

/-- The code words of the states. -/
def codeWords (s : IVec S18944x224x16 32) : IVec S18944x224x16 32 :=
  xori (andi (addi (muli (word 89226354#32) s) (word 64248484#32)) (word 2415890431#32)) (word 996162400#32)

/-- A half-precision number, read as a single-precision one. -/
def halfOf (h : IVec S18944x224x16 32) : FVec F S18944x224x16 .f32 :=
  bitcastToFloat (F := F) .f32 (ori (Host.shli (andi h (word 32768#32)) (word 16#32)) (addi (Host.shli (andi h (word 32767#32)) (word 13#32)) (word 939524096#32)))

/-- The weights, from the code words. -/
def weights (v : IVec S18944x224x16 32) : FVec F S18944x224x16 .bf16 :=
  truncf .bf16 (addf (halfOf (andi v (word 65535#32))) (halfOf (Host.shrui v (word 16#32)))) bitsLt_bf16_f32

/-- The product of the rotated activations with the weights. -/
def prod (x : FVec F S1x128x3584 .bf16) (w : FVec F S18944x224x16 .bf16) : FVec F S1x128x18944 .f32 :=
  Host.dotGeneral dot_S1x128x3584_S18944x3584_S1x128x18944_2_1_01_0_n_n none x (shapeCast _ w shapeCasts_S18944x224x16_S18944x3584)

/-- The first result, from the product. -/
def y (acc : FVec F S1x128x18944 .f32) (rs sv : FVec F S18944 .f32) (h : FVec F S256x256 .f32) : FVec F S1x128x18944 .bf16 :=
  truncf .bf16 (mulf (shapeCast _ (mulf (Host.dotGeneral dot_S1x128x74x256_S256x256_S1x128x74x256_3_1_012_0_n_n (some .fp32) (shapeCast _ (mulf acc (broadcastInDim S1x128x18944 ![0, 1, 2] bcast_S1x1x18944_S1x128x18944_0_1_2 (broadcastInDim S1x1x18944 ![2] bcast_S18944_S1x1x18944_2 rs))) shapeCasts_S1x128x18944_S1x128x74x256) h) (broadcastInDim S1x128x74x256 ![] bcast_S_S1x128x74x256 (constant S_ .f32 0x3D800000#32))) shapeCasts_S1x128x74x256_S1x128x18944) (broadcastInDim S1x128x18944 ![0, 1, 2] bcast_S1x1x18944_S1x128x18944_0_1_2 (broadcastInDim S1x1x18944 ![2] bcast_S18944_S1x1x18944_2 sv))) bitsLt_bf16_f32

variable (m : (ℓ : Loc nD τ sig) → Buf (Elt F) ℓ) (c : Dev nD)

/-- The reference's first result in these steps. -/
theorem res_eq : res_main_v98 m c
    = y (prod (xr (m ((c.tc : Thread nD τ).loc main_arg0)) (m ((c.tc : Thread nD τ).loc main_arg3)) had)
          (weights (codeWords (states (m ((c.tc : Thread nD τ).loc main_arg1)) (next (m ((c.tc : Thread nD τ).loc main_arg1))) offs))))
        (m ((c.tc : Thread nD τ).loc main_arg2)) (m ((c.tc : Thread nD τ).loc main_arg4)) had := rfl

end Cert.Trellis.Ref

end
-- ==== Proof.Bits.lean ====
/- The words of the trellis decode: the reference's reading of a 16-bit state and the kernel's, and that they agree. -/
module

public import Idealize.ShloMosaic.Lib.ValueIdx
public import Idealize.ShloMosaic.Lib.IdealHost

@[expose] public section

noncomputable section

namespace Cert.Trellis

open Idealize.ShloMosaic

/-- The reference's state `f` of a word `w` whose successor in the trellis is `nx`: the 16 bits of the pair `nx : w` that
    begin at bit `2 f`. -/
def state (w nx : BitVec 32) (f : ℕ) : BitVec 32 :=
  ((w >>> (2 * f)) ||| (if f = 0 then 0#32 else nx <<< (32 - 2 * f))) &&& 65535#32

/-- The word that a state's linear congruence step leaves, its two halves masked and marked. -/
def codeWord (st : BitVec 32) : BitVec 32 :=
  ((89226354#32 * st + 64248484#32) &&& 2415890431#32) ^^^ 996162400#32

/-- The single-precision pattern of a half-precision pattern held in the low 16 bits of `h`: the sign moved up, the
    magnitude moved up and its exponent rebiased. -/
def widen (h : BitVec 32) : BitVec 32 :=
  ((h &&& 32768#32) <<< 16) ||| (((h &&& 32767#32) <<< 13) + 939524096#32)

/-- The weight of a state, as an extended real: the sum of the two halves of its code word. -/
def weight (st : BitVec 32) : EReal :=
  Ideal.ofBits .f32 (widen (codeWord st &&& 65535#32)) + Ideal.ofBits .f32 (widen (codeWord st >>> 16))

/-- The kernel's single-precision pattern of the half in the top 16 bits of `v`. -/
def topHalf (v : BitVec 32) : BitVec 32 :=
  ((v.sshiftRight 3) &&& 2181029888#32) ^^^ 1064042496#32

/-- The kernel's weight of a state. -/
def topWeight (st : BitVec 32) : EReal :=
  Ideal.ofBits .f32 (topHalf (st * 89226354#32 + 64248484#32))
    + Ideal.ofBits .f32 (topHalf ((st * 89226354#32 + 64248484#32) <<< 16))

/-- For a masked and marked half the rebiasing addition carries nowhere. -/
theorem widen_hi (v : BitVec 32) :
    widen (((v &&& 2415890431#32) ^^^ 996162400#32) >>> 16) = topHalf v := by
  unfold widen topHalf
  rw [BitVec.add_eq_or_of_and_eq_zero]
  · ext i hi
    interval_cases i <;> simp [BitVec.getElem_sshiftRight, BitVec.msb_eq_getLsbD_last]
  · ext i hi
    interval_cases i <;> simp

/-- The same for the low half. -/
theorem widen_lo (v : BitVec 32) :
    widen (((v &&& 2415890431#32) ^^^ 996162400#32) &&& 65535#32) = topHalf (v <<< 16) := by
  unfold widen topHalf
  rw [BitVec.add_eq_or_of_and_eq_zero]
  · ext i hi
    interval_cases i <;> simp [BitVec.getElem_sshiftRight, BitVec.msb_eq_getLsbD_last]
  · ext i hi
    interval_cases i <;> simp

/-- The two readings of a state give one weight. -/
theorem topWeight_eq (st : BitVec 32) : topWeight st = weight st := by
  unfold topWeight weight codeWord
  rw [widen_hi, widen_lo, BitVec.mul_comm st, add_comm]

/-- The first eight states of a word lie in the word itself. -/
theorem state_low (w nx : BitVec 32) (f : ℕ) (hf : f < 8) :
    (w >>> (2 * f)) &&& 65535#32 = state w nx f := by
  unfold state
  interval_cases f <;> (ext i hi; interval_cases i <;> simp)

/-- The last eight lie in the word's upper half followed by its successor's lower half. -/
theorem state_high (w nx : BitVec 32) (f : ℕ) (h8 : 8 ≤ f) (hf : f < 16) :
    (((w >>> 16) ||| (nx <<< 16)) >>> (2 * f - 16)) &&& 65535#32 = state w nx f := by
  unfold state
  interval_cases f <;> (ext i hi; interval_cases i <;> simp)

end Cert.Trellis

end
-- ==== Proof.Parity.lean ====
/- The parity of an 8-bit number, and a check of all numbers below a bound that the kernel computes by recursion. -/
module

public import Mathlib.Data.Nat.Bitwise
public import Mathlib.Tactic.IntervalCases

@[expose] public section

namespace Cert.Trellis

/-- Whether an 8-bit number has an odd number of ones. -/
def odd (n : ℕ) : Bool :=
  (n % 2 + n / 2 % 2 + n / 4 % 2 + n / 8 % 2 + n / 16 % 2 + n / 32 % 2 + n / 64 % 2 + n / 128 % 2) % 2 == 1

/-- The digits of a two-digit number to base 16, exchanged. -/
def perm (j : ℕ) : ℕ := j % 16 * 16 + j / 16

/-- Whether `p` holds of every number below `n`. -/
def allB (n : ℕ) (p : ℕ → Bool) : Bool := Nat.rec true (fun k ih => and (p k) ih) n

/-- A check of all numbers below a bound that comes out true holds of each of them. -/
theorem allB_spec {n : ℕ} {p : ℕ → Bool} (h : allB n p = true) : ∀ k < n, p k = true := by
  induction n with
  | zero => intro k hk; omega
  | succ n ih =>
    have h' : (p n && allB n p) = true := h
    rw [Bool.and_eq_true] at h'
    intro k hk
    rcases Nat.lt_succ_iff_lt_or_eq.mp hk with hk | rfl
    · exact ih h'.2 k hk
    · exact h'.1

end Cert.Trellis

end
-- ==== Proof.Hadamard.lean ====
/- The entries of the Hadamard matrix as real numbers: as bf16 patterns of sixteenths, and as the reference computes them. -/
module

public import proofs.«01_k».proof.Proof.Parity
public import Idealize.ShloMosaic.Lib.Pointwise

@[expose] public section

noncomputable section

namespace Cert.Trellis

open Idealize.ShloMosaic

/-- The entry of the 256 × 256 Sylvester-Hadamard matrix at `(i, j)`: −1 where `i` and `j` share an odd number of ones. -/
def hs (i j : ℕ) : ℝ := if odd (i &&& j) then -1 else 1

/-- The matrix is symmetric. -/
theorem hs_comm (i j : ℕ) : hs i j = hs j i := by unfold hs; rw [Nat.and_comm]

/-- The population count's last bit is the parity. -/
theorem ctpop_parity : ∀ n : Fin 256,
    IntOp.ctpop (BitVec.ofNat 32 n.val) &&& 1#32 = if odd n.val then 1#32 else 0#32 := by decide +kernel

/-- The bf16 pattern `0xBD80` is minus one sixteenth. -/
theorem ofBits_neg_sixteenth : Ideal.ofBits .bf16 0xBD80#16 = ((-1 * (1 / 16) : ℝ) : EReal) := by
  simp [Ideal.ofBits, Ideal.ieee, -EReal.coe_mul, -EReal.coe_neg]
  norm_num

/-- The f32 pattern `0x3D800000` is one sixteenth. -/
theorem ofBits_sixteenth_f32 : Ideal.ofBits .f32 0x3D800000#32 = ((1 / 16 : ℝ) : EReal) := by
  simp [Ideal.ofBits, Ideal.ieee, -EReal.coe_mul, -EReal.coe_neg]
  norm_num

/-- The f32 pattern `0x40000000` is two. -/
theorem ofBits_two_f32 : Ideal.ofBits .f32 0x40000000#32 = ((2 : ℝ) : EReal) := by
  simp [Ideal.ofBits, Ideal.ieee, -EReal.coe_mul, -EReal.coe_neg]
  norm_num

/-- The two patterns of the tables at once. -/
theorem ofBits_sign (b : Bool) :
    Ideal.ofBits .bf16 (if b then 0xBD80#16 else 0x3D80#16) = (((if b then -1 else 1) * (1 / 16) : ℝ) : EReal) := by
  cases b
  · simp only [Bool.false_eq_true, if_false, one_mul]; exact Ideal.ofBits_sixteenth_bf16
  · simp only [if_true]; exact ofBits_neg_sixteenth

/-- The reference's computation of an entry: one minus twice the parity of the common ones. -/
theorem ref_entry (i j : ℕ) (hi : i < 256) :
    (1 : EReal) - Ideal.ofBits .f32 0x40000000#32
        * (((IntOp.ctpop (BitVec.ofNat 32 i &&& BitVec.ofNat 32 j) &&& 1#32).toNat : ℝ) : EReal)
      = ((hs i j : ℝ) : EReal) := by
  have hland : BitVec.ofNat 32 i &&& BitVec.ofNat 32 j = BitVec.ofNat 32 (i &&& j) :=
    (BitVec.ofNat_and ..).symm
  have hlt : i &&& j < 256 := lt_of_le_of_lt Nat.and_le_left hi
  rw [hland, ctpop_parity ⟨i &&& j, hlt⟩, ofBits_two_f32]
  unfold hs
  show (1 : EReal) - _ * ((((if odd (i &&& j) then 1#32 else 0#32 : BitVec 32)).toNat : ℝ) : EReal) = _
  cases odd (i &&& j)
  · simp
  · have : ((1#32 : BitVec 32).toNat : ℝ) = 1 := by norm_num
    simp only [if_true]
    rw [this, ← EReal.coe_mul, ← EReal.coe_one, ← EReal.coe_sub]
    norm_num

end Cert.Trellis

end
-- ==== Proof.RefVal.lean ====
/- The reference's steps over the extended reals, read at an index. -/
module

public import proofs.«01_k».proof.Proof.RefStep
public import proofs.«01_k».proof.Proof.Bits
public import proofs.«01_k».proof.Proof.Hadamard
public import Idealize.ShloMosaic.Lib.Pointwise

@[expose] public section

noncomputable section

namespace Cert.Trellis.Ref

open Cert.ReferenceIdeal Cert.ReferenceIdeal.Gen Idealize.ShloMosaic

/-- The f32 pattern `0x3F800000` is one. -/
theorem one_f32 : Ideal.ofBits .f32 0x3F800000#32 = 1 := by
  simp [Ideal.ofBits, Ideal.ieee, -EReal.coe_mul]
  norm_num

/-- The matrix's entries are the signs. -/
theorem had_apply (i j : Fin 256) : had (F := Ideal) (ix2 i j) = ((hs i j : ℝ) : EReal) := by
  rw [← ref_entry i j i.isLt, ← one_f32]
  pointwise [had]
  rfl

/-- A rotated activation: the sum over its group of 256 columns, over sixteen. -/
theorem xr_apply (x : FVec Ideal S1x128x3584 .bf16) (su : FVec Ideal S3584 .f32) (h : FVec Ideal S256x256 .f32)
    (r : Fin 128) (d : Fin 3584) :
    xr x su h (ix3 0 r d) = (∑ k : Fin 256, x (ix3 0 r ⟨256 * (d.val / 256) + k.val, by omega⟩)
      * su (ix1 ⟨256 * (d.val / 256) + k.val, by omega⟩) * h (ix2 ⟨d.val % 256, by omega⟩ k)) * Ideal.ofBits .f32 0x3D800000#32 := by
  pointwise [xr, dot_S1x128x14x256_S256x256_S1x128x14x256_3_1_012_0_n_n]
  simp only [Nat.mul_comm 256]

/-- Field `f` begins at bit `2 f`. -/
theorem offs_apply (f : Fin 16) : offs (ix3 0 0 f) = BitVec.ofNat 32 (2 * f.val) := by
  pointwise [offs]
  rw [BitVec.ofNat_mul]
  rfl

/-- A word's successor in its ring of sixteen. -/
theorem next_apply (codes : IVec S18944x224 32) (n : Fin 18944) (k : Fin 224) :
    next codes (ix2 n k) = codes (ix2 n ⟨16 * (k.val / 16) + (k.val % 16 + 1) % 16, by omega⟩) := by
  pointwise [next]
  split
  · refine congrArg codes (congrArg (ix2 n) (Fin.ext ?_))
    show k.val / 16 * 16 + (1 + k.val % 16) = 16 * (k.val / 16) + (k.val % 16 + 1) % 16
    omega
  · refine congrArg codes (congrArg (ix2 n) (Fin.ext ?_))
    show k.val / 16 * 16 + (k.val % 16 - 15) = 16 * (k.val / 16) + (k.val % 16 + 1) % 16
    omega

/-- A right shift by less than the width. -/
theorem host_shrui (x : BitVec 32) (r : ℕ) (hr : r < 32) : IntOp.shrui .host x (BitVec.ofNat 32 r) = x >>> r := by
  have h : (BitVec.ofNat 32 r).toNat = r := by simp; omega
  unfold IntOp.shrui
  rw [h, if_pos hr]
  show x >>> (BitVec.ofNat 32 r).toNat = _
  rw [h]

/-- A left shift by less than the width. -/
theorem host_shli (x : BitVec 32) (r : ℕ) (hr : r < 32) : IntOp.shli .host x (BitVec.ofNat 32 r) = x <<< r := by
  have h : (BitVec.ofNat 32 r).toNat = r := by simp; omega
  unfold IntOp.shli
  rw [h, if_pos hr]
  show x <<< (BitVec.ofNat 32 r).toNat = _
  rw [h]

/-- The bits that a field takes from the next word: none for the first field. -/
theorem high_part (b : BitVec 32) (f : Fin 16) :
    Scalar.select (IntOp.cmpi CmpIPredicate.eq (BitVec.ofNat 32 (2 * f.val)) 0#32) (0#32)
        (IntOp.shli .host b (IntOp.subi (32#32) (BitVec.ofNat 32 (2 * f.val))))
      = if f.val = 0 then 0#32 else b <<< (32 - 2 * f.val) := by
  have hc : ∀ f : Fin 16, IntOp.cmpi CmpIPredicate.eq (BitVec.ofNat 32 (2 * f.val)) 0#32 = if f.val = 0 then 1#1 else 0#1 := by
    decide
  have hs : ∀ f : Fin 16, IntOp.subi (32#32) (BitVec.ofNat 32 (2 * f.val)) = BitVec.ofNat 32 (32 - 2 * f.val) := by
    decide
  rw [hc f, hs f]
  by_cases h : f.val = 0
  · rw [if_pos h, if_pos h]
    rfl
  · rw [if_neg h, if_neg h, host_shli _ _ (by omega)]
    rfl

/-- A field's state, from its word and the word's successor. -/
theorem states_apply (codes nxt : IVec S18944x224 32) (o : IVec S1x1x16 32) (n : Fin 18944) (k : Fin 224) (f : Fin 16)
    (ho : o (ix3 0 0 f) = BitVec.ofNat 32 (2 * f.val)) :
    states codes nxt o (ix3 n k f) = state (codes (ix2 n k)) (nxt (ix2 n k)) f.val := by
  pointwise [states]
  rw [ho]
  generalize codes (ix2 n k) = a
  generalize nxt (ix2 n k) = b
  rw [high_part, host_shrui _ _ (by omega)]
  rfl

/-- A constant word at an index. -/
theorem word_apply (w : BitVec 32) (i : S18944x224x16.Idx) : word w i = w := rfl

/-- The code words at an index. -/
theorem codeWords_apply (s : IVec S18944x224x16 32) (i : S18944x224x16.Idx) : codeWords s i = codeWord (s i) := rfl

/-- A half-precision number read as single, at an index. -/
theorem halfOf_apply (h : IVec S18944x224x16 32) (i : S18944x224x16.Idx) :
    halfOf (F := Ideal) h i = Ideal.ofBits .f32 (widen (h i)) := rfl

/-- A weight is the sum of its two halves. -/
theorem weights_sum (v : IVec S18944x224x16 32) (i : S18944x224x16.Idx) :
    weights (F := Ideal) v i = halfOf (F := Ideal) (andi v (word 65535#32)) i + halfOf (F := Ideal) (Host.shrui v (word 16#32)) i := rfl

/-- The weight of a state. -/
theorem weights_apply (s : IVec S18944x224x16 32) (i : S18944x224x16.Idx) :
    weights (F := Ideal) (codeWords s) i = weight (s i) := by
  rw [weights_sum, halfOf_apply, halfOf_apply]
  rfl

/-- The product at an index: the sum over the input columns, column `d` weighted by field `d % 16` of word `d / 16`. -/
theorem prod_apply (x : FVec Ideal S1x128x3584 .bf16) (w : FVec Ideal S18944x224x16 .bf16) (r : Fin 128) (n : Fin 18944) :
    prod x w (ix3 0 r n) = ∑ d : Fin 3584, x (ix3 0 r d) * w (ix3 n ⟨d.val / 16, by omega⟩ ⟨d.val % 16, by omega⟩) := by
  pointwise [prod, dot_S1x128x3584_S18944x3584_S1x128x18944_2_1_01_0_n_n]

/-- The first result at an index: the sum over its group of 256 columns, over sixteen, times the output sign. -/
theorem y_apply (acc : FVec Ideal S1x128x18944 .f32) (rs sv : FVec Ideal S18944 .f32) (h : FVec Ideal S256x256 .f32)
    (r : Fin 128) (n : Fin 18944) :
    y acc rs sv h (ix3 0 r n) = (∑ k : Fin 256, acc (ix3 0 r ⟨256 * (n.val / 256) + k.val, by omega⟩)
      * rs (ix1 ⟨256 * (n.val / 256) + k.val, by omega⟩) * h (ix2 ⟨n.val % 256, by omega⟩ k)) * Ideal.ofBits .f32 0x3D800000#32
      * sv (ix1 n) := by
  pointwise [y, dot_S1x128x74x256_S256x256_S1x128x74x256_3_1_012_0_n_n]
  simp only [Nat.mul_comm 256]

end Cert.Trellis.Ref

end
-- ==== Proof.Step.lean ====
/- The second call's block, written with one definition per step: decode a group of words, multiply, accumulate, rotate. -/
module

public import proofs.«01_k».proof.Proof.Gen.KernelIdeal.Frame

@[expose] public section

noncomputable section

namespace Cert.Trellis

open Idealize.ShloMosaic Idealize.ShloMosaic.Pipeline Cert.KernelIdeal Cert.KernelIdeal.Gen

variable {F : FTy → Type} [FloatOps F]

/-- One half of a code word, as a single-precision number. -/
def half (v : IVec S16x256 32) : FVec F S16x256 .f32 :=
  bitcastToFloat .f32 (xori (andi (shrsi v (broadcast S16x256 3#32)) (broadcast S16x256 2181029888#32)) (broadcast S16x256 1064042496#32))

/-- The linear congruence step of the state that begins at bit `r` of the words `b`. -/
def lcg (b : IVec S16x256 32) (r : BitVec 32) : IVec S16x256 32 :=
  addi (muli (andi (shrui b (broadcast S16x256 r)) (broadcast S16x256 65535#32)) (broadcast S16x256 89226354#32)) (broadcast S16x256 64248484#32)

/-- The weights of one field of sixteen words in 256 columns. -/
def field (b : IVec S16x256 32) (r : BitVec 32) : FVec F S16x256 .bf16 :=
  truncf .bf16 (addf (half (lcg b r)) (half (shli (lcg b r) (broadcast S16x256 16#32)))) bitsLt_bf16_f32

/-- The words that hold the states which cross into the next word of the ring. -/
def mid (w : IVec S16x256 32) : IVec S16x256 32 :=
  ori (shrui w (broadcast S16x256 16#32)) (shli (dynamicRotate 0 15#32 none w rotates_S16x256_d0) (broadcast S16x256 16#32))

/-- The 256 × 256 tile of weights of sixteen words in 256 columns. -/
def tile (w : IVec S16x256 32) : FVec F S256x256 .bf16 :=
  concatenate S256x256 0 [⟨S16x256, field w 0#32⟩, ⟨S16x256, field w 2#32⟩, ⟨S16x256, field w 4#32⟩, ⟨S16x256, field w 6#32⟩, ⟨S16x256, field w 8#32⟩, ⟨S16x256, field w 10#32⟩, ⟨S16x256, field w 12#32⟩, ⟨S16x256, field w 14#32⟩, ⟨S16x256, field (mid w) 0#32⟩, ⟨S16x256, field (mid w) 2#32⟩, ⟨S16x256, field (mid w) 4#32⟩, ⟨S16x256, field (mid w) 6#32⟩, ⟨S16x256, field (mid w) 8#32⟩, ⟨S16x256, field (mid w) 10#32⟩, ⟨S16x256, field (mid w) 12#32⟩, ⟨S16x256, field (mid w) 14#32⟩] concatenates_S16x256_S16x256_S16x256_S16x256_S16x256_S16x256_S16x256_S16x256_S16x256_S16x256_S16x256_S16x256_S16x256_S16x256_S16x256_S16x256_S256x256_d0

/-- One group's contribution. -/
def gstep (acc : FVec F S128x256 .f32) (w : IVec S16x256 32) (xp : Vec F S128x256 .bf16) : FVec F S128x256 .f32 :=
  addf acc (matmul dot_S128x256_S256x256_S128x256_1_0_0_1_n_n none (shapeCast S128x256 xp shapeCasts_S128x256_S128x256 : FVec F S128x256 .bf16) (tile w) (constant S128x256 .f32 0x00000000#32))

/-- The accumulator at the start. -/
def zeroAcc : FVec F S128x256 .f32 := broadcast S128x256 (Scalar.ofBits .f32 0x00000000#32)

/-- The block of codes, words in rows. -/
def turned (c : Vec F S256x224 .i32) : IVec S224x256 32 :=
  transpose S224x256 [1, 0] (shapeCast S256x224 c shapeCasts_S256x224_S256x224) transposes_S256x224_p1_0_S224x256

/-- The rotation of a value split in three. -/
def rot (v : FVec F S128x256 .f32) (h : FVec F S256x256 .bf16) : FVec F S128x256 .f32 :=
  have a : FVec F S128x256 .bf16 := truncf .bf16 v bitsLt_bf16_f32
  have r : FVec F S128x256 .f32 := subf v (extf .f32 a bitsLt_bf16_f32)
  have b : FVec F S128x256 .bf16 := truncf .bf16 r bitsLt_bf16_f32
  have c : FVec F S128x256 .bf16 := truncf .bf16 (subf r (extf .f32 b bitsLt_bf16_f32)) bitsLt_bf16_f32
  addf (addf (matmul dot_S128x256_S256x256_S128x256_1_0_0_1_n_n none c h (constant S128x256 .f32 0x00000000#32))
      (matmul dot_S128x256_S256x256_S128x256_1_0_0_1_n_n none b h (constant S128x256 .f32 0x00000000#32)))
    (matmul dot_S128x256_S256x256_S128x256_1_0_0_1_n_n none a h (constant S128x256 .f32 0x00000000#32))

/-- What follows the accumulation: the row scale, the rotation, the output sign. -/
def finish (acc : FVec F S128x256 .f32) (rs : Vec F S1x256 .f32) (h : Vec F S256x256 .bf16) (sv : Vec F S1x256 .f32) : FVec F S128x256 .bf16 :=
  truncf .bf16 (mulf (rot (mulf acc (broadcastTo S128x256 (shapeCast S1x256 rs shapeCasts_S1x256_S1x256 : FVec F S1x256 .f32) broadcasts_S1x256_S128x256)) h)
    (broadcastTo S128x256 (shapeCast S1x256 sv shapeCasts_S1x256_S1x256 : FVec F S1x256 .f32) broadcasts_S1x256_S128x256)) bitsLt_bf16_f32

/-- The accumulator after the fourteen groups. -/
def accum (x0 : Vec F S128x3584 .bf16) (x1 : Vec F S256x224 .i32) : FVec F S128x256 .f32 :=
  gstep (gstep (gstep (gstep (gstep (gstep (gstep (gstep (gstep (gstep (gstep (gstep (gstep (gstep zeroAcc (extractStridedSlice S16x256 ![0, 0] (turned (View.ld x1 r1_0)) slices_S224x256_o0_0_S16x256) (View.ld x0 r1_1)) (extractStridedSlice S16x256 ![16, 0] (turned (View.ld x1 r1_0)) slices_S224x256_o16_0_S16x256) (View.ld x0 r1_2)) (extractStridedSlice S16x256 ![32, 0] (turned (View.ld x1 r1_0)) slices_S224x256_o32_0_S16x256) (View.ld x0 r1_3)) (extractStridedSlice S16x256 ![48, 0] (turned (View.ld x1 r1_0)) slices_S224x256_o48_0_S16x256) (View.ld x0 r1_4)) (extractStridedSlice S16x256 ![64, 0] (turned (View.ld x1 r1_0)) slices_S224x256_o64_0_S16x256) (View.ld x0 r1_5)) (extractStridedSlice S16x256 ![80, 0] (turned (View.ld x1 r1_0)) slices_S224x256_o80_0_S16x256) (View.ld x0 r1_6)) (extractStridedSlice S16x256 ![96, 0] (turned (View.ld x1 r1_0)) slices_S224x256_o96_0_S16x256) (View.ld x0 r1_7)) (extractStridedSlice S16x256 ![112, 0] (turned (View.ld x1 r1_0)) slices_S224x256_o112_0_S16x256) (View.ld x0 r1_8)) (extractStridedSlice S16x256 ![128, 0] (turned (View.ld x1 r1_0)) slices_S224x256_o128_0_S16x256) (View.ld x0 r1_9)) (extractStridedSlice S16x256 ![144, 0] (turned (View.ld x1 r1_0)) slices_S224x256_o144_0_S16x256) (View.ld x0 r1_10)) (extractStridedSlice S16x256 ![160, 0] (turned (View.ld x1 r1_0)) slices_S224x256_o160_0_S16x256) (View.ld x0 r1_11)) (extractStridedSlice S16x256 ![176, 0] (turned (View.ld x1 r1_0)) slices_S224x256_o176_0_S16x256) (View.ld x0 r1_12)) (extractStridedSlice S16x256 ![192, 0] (turned (View.ld x1 r1_0)) slices_S224x256_o192_0_S16x256) (View.ld x0 r1_13)) (extractStridedSlice S16x256 ![208, 0] (turned (View.ld x1 r1_0)) slices_S224x256_o208_0_S16x256) (View.ld x0 r1_14)

/-- The block that the second call's body leaves, in these steps. -/
theorem out1_5_eq (x0 : Vec F S128x3584 .bf16) (x1 : Vec F S256x224 .i32) (x2 : Vec F S1x256 .f32) (x3 : Vec F S1x256 .f32)
    (x4 : Vec F S256x256 .bf16) :
    out1_5 x0 x1 x2 x3 x4
      = View.canon [⟨r1_17, finish (accum x0 x1) (View.ld x2 r1_15) (View.ld x4 r1_16) (View.ld x3 r1_15)⟩] := rfl

end Cert.Trellis

end
-- ==== Proof.Rotate.lean ====
/- The rotation of the kernel: a value split in three bf16 terms, each multiplied with the Hadamard table. -/
module

public import proofs.«01_k».proof.Proof.Gen.KernelIdeal.Skeleton
public import proofs.«01_k».proof.Proof.Hadamard
public import Idealize.ShloMosaic.Lib.Pointwise

@[expose] public section

noncomputable section

namespace Cert.Trellis

open Idealize.ShloMosaic Cert.KernelIdeal Cert.KernelIdeal.Gen

/-- A sum of real numbers, in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The three products of a split value: over the reals the second and third terms of the split are zero. -/
theorem split_sum {n : ℕ} (v h : Fin n → EReal) (V H : Fin n → ℝ) (hv : ∀ k, v k = V k) (hh : ∀ k, h k = H k) :
    (∑ k, (v k - v k - (v k - v k)) * h k) + (∑ k, (v k - v k) * h k) + ∑ k, v k * h k
      = ((∑ k, V k * H k : ℝ) : EReal) := by
  simp only [hv, hh, ← EReal.coe_sub, ← EReal.coe_mul, coe_sum, ← EReal.coe_add]
  simp

/-- The first rotation's block at an index, for real operands. -/
theorem pay2_apply (v0 : Vec Ideal S128x256 .bf16) (v3 : Vec Ideal S1x256 .f32) (v7 : Vec Ideal S256x256 .bf16)
    (r : Fin 128) (j : Fin 256) (V H : Fin 256 → ℝ) (hv : ∀ k, v0 (ix2 r k) * v3 (ix2 0 k) = V k)
    (hh : ∀ k, v7 (ix2 k j) = H k) :
    k0_pay2 v0 v3 v7 (ix2 r j) = ((∑ k, V k * H k : ℝ) : EReal) := by
  rw [← split_sum (fun k => v0 (ix2 r k) * v3 (ix2 0 k)) (fun k => v7 (ix2 k j)) V H hv hh]
  pointwise [k0_pay2, k0_pay1, dot_S128x256_S256x256_S128x256_1_0_0_1_n_n]

/-- The block of the second, permuted output likewise. -/
theorem pay3_apply (v0 : Vec Ideal S128x256 .bf16) (v3 : Vec Ideal S1x256 .f32) (v7 : Vec Ideal S256x256 .bf16)
    (r : Fin 128) (j : Fin 256) (V H : Fin 256 → ℝ) (hv : ∀ k, v0 (ix2 r k) * v3 (ix2 0 k) = V k)
    (hh : ∀ k, v7 (ix2 k j) = H k) :
    k0_pay3 v0 v3 v7 (ix2 r j) = ((∑ k, V k * H k : ℝ) : EReal) :=
  pay2_apply v0 v3 v7 r j V H hv hh

end Cert.Trellis

end
-- ==== Proof.StepVal.lean ====
/- The steps of the second call's block over the extended reals, read at an index. -/
module

public import proofs.«01_k».proof.Proof.Step
public import proofs.«01_k».proof.Proof.Bits
public import proofs.«01_k».proof.Proof.Rotate
public import Idealize.ShloMosaic.Lib.Pointwise

@[expose] public section

noncomputable section

namespace Cert.Trellis

open Idealize.ShloMosaic Idealize.ShloMosaic.Pipeline Cert.KernelIdeal Cert.KernelIdeal.Gen

/-- A half of the code word at an index. -/
theorem half_apply (v : IVec S16x256 32) (i : S16x256.Idx) :
    half (F := Ideal) v i = Ideal.ofBits .f32 (topHalf (v i)) := rfl

/-- The congruence step at an index. -/
theorem lcg_apply (b : IVec S16x256 32) (r : BitVec 32) (i : S16x256.Idx) :
    lcg b r i = (IntOp.shrui .vector (b i) r &&& 65535#32) * 89226354#32 + 64248484#32 := rfl

/-- A shift within the word. -/
theorem shrui_ofNat (x : BitVec 32) (r : ℕ) (hr : r < 32) : IntOp.shrui .vector x (BitVec.ofNat 32 r) = x >>> r := by
  have h : (BitVec.ofNat 32 r).toNat = r := by simp; omega
  unfold IntOp.shrui
  rw [h, if_pos hr]
  show x >>> (BitVec.ofNat 32 r).toNat = _
  rw [h]

/-- A rounded sum at an index. -/
theorem truncf_addf_apply (u v : FVec Ideal S16x256 .f32) (i : S16x256.Idx) :
    (truncf .bf16 (addf u v) bitsLt_bf16_f32 : FVec Ideal S16x256 .bf16) i = u i + v i := rfl

/-- A field of a word as its two halves. -/
theorem field_halves (b : IVec S16x256 32) (r : BitVec 32) (i : S16x256.Idx) :
    field (F := Ideal) b r i = half (F := Ideal) (lcg b r) i
      + half (F := Ideal) (shli (lcg b r) (broadcast S16x256 16#32)) i :=
  truncf_addf_apply _ _ i

/-- The shift of the low half to the top, at an index. -/
theorem shli_apply (v : IVec S16x256 32) (i : S16x256.Idx) : shli v (broadcast S16x256 16#32) i = v i <<< 16 := rfl

/-- A field of a word: the weight of the 16 bits that begin at bit `r`. -/
theorem field_apply (b : IVec S16x256 32) (r : ℕ) (hr : r < 32) (k : Fin 16) (c : Fin 256) :
    field (F := Ideal) b (BitVec.ofNat 32 r) (ix2 k c) = weight (((b (ix2 k c) : BitVec 32) >>> r) &&& 65535#32) := by
  rw [← topWeight_eq, field_halves, half_apply, half_apply, shli_apply, lcg_apply, shrui_ofNat _ _ hr]
  unfold topWeight
  rfl

/-- The straddling words at an index. -/
theorem mid_apply (w : IVec S16x256 32) (k : Fin 16) (c : Fin 256) :
    mid w (ix2 k c) = (w (ix2 k c) >>> 16) ||| (w (ix2 ⟨(k.val + 1) % 16, by omega⟩ c) <<< 16) := by
  pointwise [mid]
  rfl

/-- Field `f` of the tile. -/
def part (w : IVec S16x256 32) (f : Fin 16) : FVec Ideal S16x256 .bf16 :=
  if f.val < 8 then field w (BitVec.ofNat 32 (2 * f.val)) else field (mid w) (BitVec.ofNat 32 (2 * f.val - 16))

/-- Field `f` of the tile at an index: the weight of the state `f` of word `k`. -/
theorem part_apply (w : IVec S16x256 32) (f k : Fin 16) (c : Fin 256) :
    part w f (ix2 k c) = weight (state (w (ix2 k c)) (w (ix2 ⟨(k.val + 1) % 16, by omega⟩ c)) f.val) := by
  unfold part
  by_cases hf : f.val < 8
  · rw [if_pos hf, field_apply _ _ (by omega), state_low _ _ _ hf]
  · rw [if_neg hf, field_apply _ _ (by omega), mid_apply, state_high _ _ _ (by omega) f.isLt]

/-- The tile is its sixteen fields, one above the other. -/
theorem tile_eq (w : IVec S16x256 32) :
    tile (F := Ideal) w = concatenate S256x256 0 (List.ofFn fun f : Fin 16 => (⟨S16x256, part w f⟩ : (s : Shape) × (s.Idx → EReal)))
      concatenates_S16x256_S16x256_S16x256_S16x256_S16x256_S16x256_S16x256_S16x256_S16x256_S16x256_S16x256_S16x256_S16x256_S16x256_S16x256_S16x256_S256x256_d0 := rfl

/-- Row `16 f + k` of the tile holds field `f` of word `k`. -/
theorem tile_apply (w : IVec S16x256 32) (i : Fin 256) (c : Fin 256) :
    tile (F := Ideal) w (ix2 i c)
      = weight (state (w (ix2 ⟨i.val % 16, by omega⟩ c)) (w (ix2 ⟨(i.val % 16 + 1) % 16, by omega⟩ c)) (i.val / 16)) := by
  rw [tile_eq]
  refine (concatenate_ofFn_apply (t := S256x256) (s₁ := S16x256) 0 (part w) _ rfl 16 rfl (ix2 i c) ⟨i.val / 16, by omega⟩ rfl
    (ix2 ⟨i.val % 16, by omega⟩ c) rfl ?_).trans (part_apply w _ _ c)
  intro b hb
  fin_cases b
  · exact absurd rfl hb
  · rfl

/-- One group's words, from the block of codes. -/
def words (x1 : Vec Ideal S256x224 .i32) (g : Fin 14) : IVec S16x256 32 :=
  fun i => x1 (ix2 (i 1) ⟨16 * g.val + (i 0).val, by have := (i 0).isLt; have := g.isLt; simp at *; omega⟩)

/-- One group's columns of the permuted activations. -/
def cols (x0 : Vec Ideal S128x3584 .bf16) (g : Fin 14) : Vec Ideal S128x256 .bf16 :=
  fun i => x0 (ix2 (i 0) ⟨256 * g.val + (i 1).val, by have := (i 1).isLt; have := g.isLt; simp at *; omega⟩)

/-- A group's words as the body slices them. -/
theorem words_eq (x1 : Vec Ideal S256x224 .i32) (g : Fin 14) (o : ℕ) (ho : o = 16 * g.val) (h : S224x256.Slices ![o, 0] S16x256) :
    extractStridedSlice S16x256 ![o, 0] (turned (F := Ideal) (View.ld x1 r1_0)) h = words x1 g := by
  subst ho
  funext i
  pointwise [turned, words]

/-- A group's columns as the body loads them. -/
theorem cols_eq (x0 : Vec Ideal S128x3584 .bf16) (g : Fin 14) (o : ℕ) (ho : o = 256 * g.val)
    (h : ∀ a, (![0, o] : Fin 2 → ℕ) a + S128x256.size a ≤ S128x3584.size a) :
    View.ld x0 (Rect.unit (s := S128x3584) ![0, o] S128x256.size h) = cols x0 g := by
  subst ho
  funext i
  pointwise [cols]

/-- One group's step at an index: the product with the group's tile is added. -/
theorem gstep_apply (acc : FVec Ideal S128x256 .f32) (w : IVec S16x256 32) (xp : Vec Ideal S128x256 .bf16) (r : Fin 128) (c : Fin 256) :
    gstep acc w xp (ix2 r c) = acc (ix2 r c) + ∑ k : Fin 256, xp (ix2 r k) * tile (F := Ideal) w (ix2 k c) := by
  pointwise [gstep, dot_S128x256_S256x256_S128x256_1_0_0_1_n_n]

/-- The accumulator starts at zero. -/
theorem zeroAcc_apply (i : S128x256.Idx) : zeroAcc (F := Ideal) i = 0 := by
  show Ideal.ofBits .f32 0x00000000#32 = 0
  simp [Ideal.ofBits, Ideal.ieee]

/-- The accumulator: the sum over the groups and, within a group, over the rows of its tile. -/
theorem accum_apply (x0 : Vec Ideal S128x3584 .bf16) (x1 : Vec Ideal S256x224 .i32) (r : Fin 128) (c : Fin 256) :
    accum x0 x1 (ix2 r c)
      = ∑ g : Fin 14, ∑ k : Fin 256, cols x0 g (ix2 r k) * tile (F := Ideal) (words x1 g) (ix2 k c) := by
  unfold accum
  rw [words_eq x1 0 0 rfl, words_eq x1 1 16 rfl, words_eq x1 2 32 rfl, words_eq x1 3 48 rfl, words_eq x1 4 64 rfl,
    words_eq x1 5 80 rfl, words_eq x1 6 96 rfl, words_eq x1 7 112 rfl, words_eq x1 8 128 rfl, words_eq x1 9 144 rfl,
    words_eq x1 10 160 rfl, words_eq x1 11 176 rfl, words_eq x1 12 192 rfl, words_eq x1 13 208 rfl,
    cols_eq x0 0 0 rfl, cols_eq x0 1 256 rfl, cols_eq x0 2 512 rfl, cols_eq x0 3 768 rfl, cols_eq x0 4 1024 rfl,
    cols_eq x0 5 1280 rfl, cols_eq x0 6 1536 rfl, cols_eq x0 7 1792 rfl, cols_eq x0 8 2048 rfl, cols_eq x0 9 2304 rfl,
    cols_eq x0 10 2560 rfl, cols_eq x0 11 2816 rfl, cols_eq x0 12 3072 rfl, cols_eq x0 13 3328 rfl]
  simp only [gstep_apply, zeroAcc_apply, zero_add]
  simp only [Fin.sum_univ_castSucc (n := 13), Fin.sum_univ_castSucc (n := 12), Fin.sum_univ_castSucc (n := 11),
    Fin.sum_univ_castSucc (n := 10), Fin.sum_univ_castSucc (n := 9), Fin.sum_univ_castSucc (n := 8),
    Fin.sum_univ_castSucc (n := 7), Fin.sum_univ_castSucc (n := 6), Fin.sum_univ_castSucc (n := 5),
    Fin.sum_univ_castSucc (n := 4), Fin.sum_univ_castSucc (n := 3), Fin.sum_univ_castSucc (n := 2),
    Fin.sum_univ_castSucc (n := 1), Fin.sum_univ_castSucc (n := 0), Fin.sum_univ_zero, zero_add]
  rfl

/-- What follows the accumulation, at an index, for real operands of the rotation. -/
theorem finish_apply (acc : FVec Ideal S128x256 .f32) (rs : Vec Ideal S1x256 .f32) (h : Vec Ideal S256x256 .bf16)
    (sv : Vec Ideal S1x256 .f32) (r : Fin 128) (j : Fin 256) (V H : Fin 256 → ℝ)
    (hv : ∀ k, acc (ix2 r k) * rs (ix2 0 k) = V k) (hh : ∀ k, h (ix2 k j) = H k) :
    finish acc rs h sv (ix2 r j) = ((∑ k, V k * H k : ℝ) : EReal) * sv (ix2 0 j) := by
  rw [← split_sum (fun k => acc (ix2 r k) * rs (ix2 0 k)) (fun k => h (ix2 k j)) V H hv hh]
  pointwise [finish, rot, dot_S128x256_S256x256_S128x256_1_0_0_1_n_n]

/-- The kernel's pattern of a half is that of a finite number: its exponent is not all ones. -/
theorem topHalf_real (v : BitVec 32) : ∃ x : ℝ, Ideal.ofBits .f32 (topHalf v) = (x : EReal) := by
  have hb : ((topHalf v).extractLsb' 23 8).toNat ≠ 2 ^ 8 - 1 := by
    intro h
    have h' : (topHalf v).extractLsb' 23 8 = 255#8 := BitVec.eq_of_toNat_eq h
    have h7 := congrArg (fun b => b.getLsbD 7) h'
    simp [topHalf] at h7
  show ∃ x : ℝ, Ideal.ieee 8 23 (topHalf v) = (x : EReal)
  unfold Ideal.ieee
  dsimp only
  rw [if_neg hb]
  split
  · exact ⟨_, rfl⟩
  · exact ⟨_, rfl⟩

/-- Every weight is a real number. -/
theorem weight_real (st : BitVec 32) : ∃ x : ℝ, weight st = (x : EReal) := by
  obtain ⟨a, ha⟩ := topHalf_real (st * 89226354#32 + 64248484#32)
  obtain ⟨b, hb⟩ := topHalf_real ((st * 89226354#32 + 64248484#32) <<< 16)
  refine ⟨a + b, ?_⟩
  rw [← topWeight_eq, EReal.coe_add, ← ha, ← hb]
  rfl

end Cert.Trellis

end
-- ==== Proof.Region0.lean ====
/- The arrays that the first call leaves. -/
module

public import proofs.«01_k».proof.Proof.Rotate
public import proofs.«01_k».proof.Proof.Gen.KernelIdeal.Frame
public import Idealize.ShloMosaic.Lib.Pipeline.ValueKit

@[expose] public section

noncomputable section

namespace Cert.Trellis

open Idealize.ShloMosaic Idealize.ShloMosaic.TcCoe Idealize.ShloMosaic.Pipeline Idealize.SL.Sem Cert.KernelIdeal Cert.KernelIdeal.Gen

variable (V : (c : Dev nD) → (b : Ref sig .tc) → Buf (Elt Ideal) ((c : Thread nD τ).loc b)) (c : Dev nD)

/-- The rotation of each group of 256 columns by a table. -/
def rotOf (U : Fin 128 → Fin 3584 → ℝ) (H : Fin 256 → Fin 256 → ℝ) (r : Fin 128) (d : Fin 3584) : ℝ :=
  ∑ k : Fin 256, U r ⟨256 * (d.val / 256) + k.val, by omega⟩ * H k ⟨d.val % 256, by omega⟩

/-- Which block each window of the first call takes at each grid point: the activations' group. -/
theorem index0_0 : ∀ t : Fin cfg0.N, win0_0.index t = ![0, t.val] := (by decide +kernel : ∀ t : Fin grid0.N, _)
/-- The signs' group. -/
theorem index0_1 : ∀ t : Fin cfg0.N, win0_1.index t = ![0, t.val] := (by decide +kernel : ∀ t : Fin grid0.N, _)
/-- The whole first table. -/
theorem index0_2 : ∀ t : Fin cfg0.N, win0_2.index t = ![0, 0] := (by decide +kernel : ∀ t : Fin grid0.N, _)
/-- The whole second table. -/
theorem index0_3 : ∀ t : Fin cfg0.N, win0_3.index t = ![0, 0] := (by decide +kernel : ∀ t : Fin grid0.N, _)
/-- The first output's group. -/
theorem index0_4 : ∀ t : Fin cfg0.N, win0_4.index t = ![0, t.val] := (by decide +kernel : ∀ t : Fin grid0.N, _)
/-- The second output's group. -/
theorem index0_5 : ∀ t : Fin cfg0.N, win0_5.index t = ![0, t.val] := (by decide +kernel : ∀ t : Fin grid0.N, _)

/-- The first grid has 14 points. -/
theorem lt0 (t : Fin cfg0.N) : t.val < 14 := t.isLt

/-- The blocks of the first call's inputs, at coordinates. -/
theorem blk0_0 (t : Fin cfg0.N) (r : Fin 128) (k : Fin 256) :
    iblk0 V c 0 t (ix2 r k) = V c main_v0 (ix2 r ⟨256 * t.val + k.val, by have := lt0 t; omega⟩) := by
  blk_simp [iblk0]
  refine congrArg (V c main_v0) ?_
  blk_ext [index0_0]

/-- The signs' block. -/
theorem blk0_1 (t : Fin cfg0.N) (r : Fin 1) (k : Fin 256) :
    iblk0 V c 1 t (ix2 r k) = V c main_v1 (ix2 r ⟨256 * t.val + k.val, by have := lt0 t; omega⟩) := by
  blk_simp [iblk0]
  refine congrArg (V c main_v1) ?_
  blk_ext [index0_1]

/-- The first table's block. -/
theorem blk0_2 (t : Fin cfg0.N) (r k : Fin 256) : iblk0 V c 2 t (ix2 r k) = V c main_cst (ix2 r k) := by
  blk_simp [iblk0]
  refine congrArg (V c main_cst) ?_
  blk_ext [index0_2]

/-- The second table's block. -/
theorem blk0_3 (t : Fin cfg0.N) (r k : Fin 256) : iblk0 V c 3 t (ix2 r k) = V c main_cst_0 (ix2 r k) := by
  blk_simp [iblk0]
  refine congrArg (V c main_cst_0) ?_
  blk_ext [index0_3]

/-- An index of a block is its two coordinates. -/
theorem ext128 (y : S128x256.Idx) : y = ix2 (y 0) (y 1) := by
  funext a
  fin_cases a <;> rfl

variable (x : Fin 128 → Fin 3584 → ℝ) (su : Fin 3584 → ℝ) (H : Fin 256 → Fin 256 → ℝ)
  (hx : ∀ r d, V c main_v0 (ix2 r d) = ((x r d : ℝ) : EReal)) (hsu : ∀ d, V c main_v1 (ix2 0 d) = ((su d : ℝ) : EReal))

include hx hsu in
/-- The sums over a block's columns are the sums over a group's. -/
theorem block0 (T : Vec Ideal S256x256 .bf16) (hT : ∀ i j, T (ix2 i j) = ((H i j : ℝ) : EReal)) (t : Fin cfg0.N)
    (r : Fin 128) (j : Fin 256) :
    k0_pay2 (iblk0 V c 0 t) (iblk0 V c 1 t) T (ix2 r j)
      = ((rotOf (fun r d => x r d * su d) H r ⟨256 * t.val + j.val, by have := lt0 t; omega⟩ : ℝ) : EReal) := by
  rw [pay2_apply (iblk0 V c 0 t) (iblk0 V c 1 t) T r j
    (fun k => x r ⟨256 * t.val + k.val, by have := lt0 t; omega⟩ * su ⟨256 * t.val + k.val, by have := lt0 t; omega⟩) (fun k => H k j)
    (fun k => by rw [blk0_0, blk0_1, hx, hsu, EReal.coe_mul]) (fun k => hT _ _)]
  refine congrArg (fun x : ℝ => (x : EReal)) ?_
  unfold rotOf
  refine Finset.sum_congr rfl fun k _ => ?_
  have e : 256 * ((256 * t.val + j.val) / 256) + k.val = 256 * t.val + k.val := by omega
  have e' : (256 * t.val + j.val) % 256 = j.val := by omega
  simp only [e, e']

include hx hsu in
/-- The first output of the first call. -/
theorem arr0_4 (hH : ∀ i j, V c main_cst (ix2 i j) = ((H i j : ℝ) : EReal)) :
    (dat0 V c).arrAt 4 cfg0.N = fun i => ((rotOf (fun r d => x r d * su d) H (i 0) (i 1) : ℝ) : EReal) := by
  refine (dat0 V c).arrAt_eq_of_covers 4 _ (by decide +kernel) fun t hf y => ?_
  blk_simp
  rw [after0_4]
  frame_out
  obtain ⟨r, j, rfl⟩ : ∃ (r : Fin 128) (j : Fin 256), y = (ix2 r j : S128x256.Idx) := ⟨y 0, y 1, ext128 y⟩
  have e : ((View.whole main_v2_0).slice (win0_4.rect t)).emb (ix2 r j : S128x256.Idx)
      = ix2 r (⟨256 * t.val + j.val, by have := lt0 t; omega⟩ : Fin 3584) := by
    blk_ext [index0_4]
  rw [e]
  exact block0 V c x su H hx hsu (iblk0 V c 2 t) (fun i j => (blk0_2 V c t i j).trans (hH i j)) t r j

include hx hsu in
/-- The second output of the first call. -/
theorem arr0_5 (hH : ∀ i j, V c main_cst_0 (ix2 i j) = ((H i j : ℝ) : EReal)) :
    (dat0 V c).arrAt 5 cfg0.N = fun i => ((rotOf (fun r d => x r d * su d) H (i 0) (i 1) : ℝ) : EReal) := by
  refine (dat0 V c).arrAt_eq_of_covers 5 _ (by decide +kernel) fun t hf y => ?_
  blk_simp
  rw [after0_5]
  frame_out
  obtain ⟨r, j, rfl⟩ : ∃ (r : Fin 128) (j : Fin 256), y = (ix2 r j : S128x256.Idx) := ⟨y 0, y 1, ext128 y⟩
  have e : ((View.whole main_v2_1).slice (win0_5.rect t)).emb (ix2 r j : S128x256.Idx)
      = ix2 r (⟨256 * t.val + j.val, by have := lt0 t; omega⟩ : Fin 3584) := by
    blk_ext [index0_5]
  rw [e]
  exact block0 V c x su H hx hsu (iblk0 V c 3 t) (fun i j => (blk0_3 V c t i j).trans (hH i j)) t r j

end Cert.Trellis

end
-- ==== Proof.Region1.lean ====
/- The array that the second call leaves. -/
module

public import proofs.«01_k».proof.Proof.StepVal
public import proofs.«01_k».proof.Proof.Region0

@[expose] public section

noncomputable section

namespace Cert.Trellis

open Idealize.ShloMosaic Idealize.ShloMosaic.TcCoe Idealize.ShloMosaic.Pipeline Idealize.SL.Sem Cert.KernelIdeal Cert.KernelIdeal.Gen

/-- The weight of a state, as a real number. -/
def wreal (st : BitVec 32) : ℝ := (weight st).toReal

/-- A weight is its real number. -/
theorem weight_eq (st : BitVec 32) : weight st = ((wreal st : ℝ) : EReal) := by
  obtain ⟨x, hx⟩ := weight_real st
  unfold wreal
  rw [hx, EReal.toReal_coe]

/-- The weight in row `k` of group `g`'s tile, in column `n`. -/
def tileW (C : Fin 18944 → Fin 224 → BitVec 32) (n : Fin 18944) (g : Fin 14) (k : Fin 256) : ℝ :=
  wreal (state (C n ⟨16 * g.val + k.val % 16, by omega⟩) (C n ⟨16 * g.val + (k.val % 16 + 1) % 16, by omega⟩) (k.val / 16))

/-- The product of the permuted activations with the tiles. -/
def accOf (xp : Fin 128 → Fin 3584 → ℝ) (C : Fin 18944 → Fin 224 → BitVec 32) (r : Fin 128) (n : Fin 18944) : ℝ :=
  ∑ g : Fin 14, ∑ k : Fin 256, xp r ⟨256 * g.val + k.val, by omega⟩ * tileW C n g k

/-- The result: the product scaled by row, rotated in groups of 256, and multiplied with the output signs. -/
def yOf (acc : Fin 128 → Fin 18944 → ℝ) (rs : Fin 18944 → ℝ) (H : Fin 256 → Fin 256 → ℝ) (sv : Fin 18944 → EReal)
    (r : Fin 128) (n : Fin 18944) : EReal :=
  ((∑ i : Fin 256, acc r ⟨256 * (n.val / 256) + i.val, by omega⟩ * rs ⟨256 * (n.val / 256) + i.val, by omega⟩
    * H i ⟨n.val % 256, by omega⟩ : ℝ) : EReal) * sv n

variable (V : (c : Dev nD) → (b : Ref sig .tc) → Buf (Elt Ideal) ((c : Thread nD τ).loc b)) (c : Dev nD)

/-- Which block each window of the second call takes at each grid point: the whole of the activations. -/
theorem index1_0 : ∀ t : Fin cfg1.N, win1_0.index t = ![0, 0] := (by decide +kernel : ∀ t : Fin grid1.N, _)
/-- The codes of 256 output columns. -/
theorem index1_1 : ∀ t : Fin cfg1.N, win1_1.index t = ![t.val, 0] := (by decide +kernel : ∀ t : Fin grid1.N, _)
/-- The row scales of 256 output columns. -/
theorem index1_2 : ∀ t : Fin cfg1.N, win1_2.index t = ![0, t.val] := (by decide +kernel : ∀ t : Fin grid1.N, _)
/-- The output signs of 256 output columns. -/
theorem index1_3 : ∀ t : Fin cfg1.N, win1_3.index t = ![0, t.val] := (by decide +kernel : ∀ t : Fin grid1.N, _)
/-- The whole table. -/
theorem index1_4 : ∀ t : Fin cfg1.N, win1_4.index t = ![0, 0] := (by decide +kernel : ∀ t : Fin grid1.N, _)
/-- 256 output columns of the result. -/
theorem index1_5 : ∀ t : Fin cfg1.N, win1_5.index t = ![0, t.val] := (by decide +kernel : ∀ t : Fin grid1.N, _)

/-- The second grid has 74 points. -/
theorem lt1 (t : Fin cfg1.N) : t.val < 74 := t.isLt

/-- The blocks of the second call's inputs, at coordinates. -/
theorem blk1_0 (t : Fin cfg1.N) (r : Fin 128) (k : Fin 3584) : iblk1 V c 0 t (ix2 r k) = V c main_v2_1 (ix2 r k) := by
  blk_simp [iblk1]
  refine congrArg (V c main_v2_1) ?_
  blk_ext [index1_0]

/-- The codes' block. -/
theorem blk1_1 (t : Fin cfg1.N) (r : Fin 256) (k : Fin 224) :
    iblk1 V c 1 t (ix2 r k) = V c main_v3 (ix2 ⟨256 * t.val + r.val, by have := lt1 t; omega⟩ k) := by
  blk_simp [iblk1]
  refine congrArg (V c main_v3) ?_
  blk_ext [index1_1]

/-- The row scales' block. -/
theorem blk1_2 (t : Fin cfg1.N) (r : Fin 1) (k : Fin 256) :
    iblk1 V c 2 t (ix2 r k) = V c main_v4 (ix2 r ⟨256 * t.val + k.val, by have := lt1 t; omega⟩) := by
  blk_simp [iblk1]
  refine congrArg (V c main_v4) ?_
  blk_ext [index1_2]

/-- The output signs' block. -/
theorem blk1_3 (t : Fin cfg1.N) (r : Fin 1) (k : Fin 256) :
    iblk1 V c 3 t (ix2 r k) = V c main_v5 (ix2 r ⟨256 * t.val + k.val, by have := lt1 t; omega⟩) := by
  blk_simp [iblk1]
  refine congrArg (V c main_v5) ?_
  blk_ext [index1_3]

/-- The table's block. -/
theorem blk1_4 (t : Fin cfg1.N) (r k : Fin 256) : iblk1 V c 4 t (ix2 r k) = V c main_cst (ix2 r k) := by
  blk_simp [iblk1]
  refine congrArg (V c main_cst) ?_
  blk_ext [index1_4]

/-- What the body leaves in the output block. -/
theorem out1_5_apply (x0 : Vec Ideal S128x3584 .bf16) (x1 : Vec Ideal S256x224 .i32) (x2 x3 : Vec Ideal S1x256 .f32)
    (x4 : Vec Ideal S256x256 .bf16) :
    out1_5 x0 x1 x2 x3 x4 = finish (accum x0 x1) x2 x4 x3 := by
  have hz : (![0, 0] : Fin 2 → ℕ) = fun _ => 0 := by funext a; fin_cases a <;> rfl
  rw [out1_5_eq]
  refine (View.canon_unit_zero hz _ _).trans ?_
  rw [show View.ld x2 r1_15 = x2 from View.ld_unit_zero hz _ _, show View.ld x4 r1_16 = x4 from View.ld_unit_zero hz _ _,
    show View.ld x3 r1_15 = x3 from View.ld_unit_zero hz _ _]

variable (xp : Fin 128 → Fin 3584 → ℝ) (C : Fin 18944 → Fin 224 → BitVec 32) (rs : Fin 18944 → ℝ)
  (H : Fin 256 → Fin 256 → ℝ) (sv : Fin 18944 → EReal)
  (hxp : ∀ r d, V c main_v2_1 (ix2 r d) = ((xp r d : ℝ) : EReal)) (hC : ∀ n k, V c main_v3 (ix2 n k) = C n k)
  (hrs : ∀ n, V c main_v4 (ix2 0 n) = ((rs n : ℝ) : EReal)) (hsv : ∀ n, V c main_v5 (ix2 0 n) = sv n)
  (hH : ∀ i j, V c main_cst (ix2 i j) = ((H i j : ℝ) : EReal))

include hxp hC in
/-- The accumulator of a block. -/
theorem accum1 (t : Fin cfg1.N) (r : Fin 128) (j : Fin 256) :
    accum (iblk1 V c 0 t) (iblk1 V c 1 t) (ix2 r j)
      = ((accOf xp C r ⟨256 * t.val + j.val, by have := lt1 t; omega⟩ : ℝ) : EReal) := by
  rw [accum_apply]
  unfold accOf
  rw [← coe_sum]
  refine Finset.sum_congr rfl fun g _ => ?_
  rw [← coe_sum]
  refine Finset.sum_congr rfl fun k _ => ?_
  rw [tile_apply, weight_eq, EReal.coe_mul]
  refine congrArg₂ (fun a b : EReal => a * b) ?_ ?_
  · exact (blk1_0 V c t r _).trans (hxp _ _)
  · have h1 := (blk1_1 V c t j ⟨16 * g.val + k.val % 16, by omega⟩).trans (hC _ _)
    have h2 := (blk1_1 V c t j ⟨16 * g.val + (k.val % 16 + 1) % 16, by omega⟩).trans (hC _ _)
    unfold tileW
    rw [← h1, ← h2]
    rfl

include hxp hC hrs hsv hH in
/-- The output block at an index. -/
theorem block1 (t : Fin cfg1.N) (r : Fin 128) (j : Fin 256) :
    out1_5 (iblk1 V c 0 t) (iblk1 V c 1 t) (iblk1 V c 2 t) (iblk1 V c 3 t) (iblk1 V c 4 t) (ix2 r j)
      = yOf (accOf xp C) rs H sv r ⟨256 * t.val + j.val, by have := lt1 t; omega⟩ := by
  rw [out1_5_apply, finish_apply _ (iblk1 V c 2 t) (iblk1 V c 4 t) (iblk1 V c 3 t) r j
    (fun k => accOf xp C r ⟨256 * t.val + k.val, by have := lt1 t; omega⟩ * rs ⟨256 * t.val + k.val, by have := lt1 t; omega⟩)
    (fun k => H k j) (fun k => by rw [accum1 V c xp C hxp hC, blk1_2, hrs, EReal.coe_mul]) (fun k => by rw [blk1_4, hH]), blk1_3, hsv]
  unfold yOf
  have e : ∀ k : Fin 256, 256 * ((256 * t.val + j.val) / 256) + k.val = 256 * t.val + k.val := fun k => by omega
  have e' : (256 * t.val + j.val) % 256 = j.val := by omega
  simp only [e, e']

include hxp hC hrs hsv hH in
/-- The output of the second call. -/
theorem arr1_5 : (dat1 V c).arrAt 5 cfg1.N = fun i => yOf (accOf xp C) rs H sv (i 0) (i 1) := by
  refine (dat1 V c).arrAt_eq_of_covers 5 _ (by decide +kernel) fun t hf y => ?_
  blk_simp
  rw [after1_5]
  obtain ⟨r, j, rfl⟩ : ∃ (r : Fin 128) (j : Fin 256), y = (ix2 r j : S128x256.Idx) := ⟨y 0, y 1, ext128 y⟩
  have e : ((View.whole main_v6).slice (win1_5.rect t)).emb (ix2 r j : S128x256.Idx)
      = ix2 r (⟨256 * t.val + j.val, by have := lt1 t; omega⟩ : Fin 18944) := by
    blk_ext [index1_5]
  rw [e]
  exact block1 V c xp C rs H sv hxp hC hrs hsv hH t r j

end Cert.Trellis

end
-- ==== Proof.Table0.lean ====
/- The kernel's first table of bf16 patterns, read row-major: one sixteenth of the Hadamard matrix. -/
module

public import proofs.«01_k».proof.KernelIdeal
public import proofs.«01_k».proof.Proof.Parity

@[expose] public section

noncomputable section

namespace Cert.Trellis

open Idealize.ShloMosaic Cert.KernelIdeal

set_option maxHeartbeats 100000000 in
/-- One row of the table. -/
theorem lit0t_row (a : ℕ) (ha : a < 256) :
    allB 256 (fun j => Nat.beq (lit0t (a * 256 + j)).toNat (bif odd (a &&& j) then 0xBD80 else 0x3D80)) = true := by
  interval_cases a <;> decide +kernel

/-- The table's entry at row `i` and column `j`. -/
theorem lit0t_eq (i j : ℕ) (hi : i < 256) (hj : j < 256) :
    lit0t (i * 256 + j) = if odd (i &&& j) then 0xBD80#16 else 0x3D80#16 := by
  have h := Nat.eq_of_beq_eq_true (allB_spec (lit0t_row i hi) j hj)
  apply BitVec.eq_of_toNat_eq
  rw [h]
  cases odd (i &&& j) <;> rfl

end Cert.Trellis

end
-- ==== Proof.Table1.lean ====
/- The kernel's second table of bf16 patterns, read row-major: the first with its columns permuted. -/
module

public import proofs.«01_k».proof.KernelIdeal
public import proofs.«01_k».proof.Proof.Parity

@[expose] public section

noncomputable section

namespace Cert.Trellis

open Idealize.ShloMosaic Cert.KernelIdeal

set_option maxHeartbeats 100000000 in
/-- One row of the table. -/
theorem lit1t_row (a : ℕ) (ha : a < 256) :
    allB 256 (fun j => Nat.beq (lit1t (a * 256 + j)).toNat (bif odd (a &&& perm j) then 0xBD80 else 0x3D80)) = true := by
  interval_cases a <;> decide +kernel

/-- The table's entry at row `i` and column `j`. -/
theorem lit1t_eq (i j : ℕ) (hi : i < 256) (hj : j < 256) :
    lit1t (i * 256 + j) = if odd (i &&& perm j) then 0xBD80#16 else 0x3D80#16 := by
  have h := Nat.eq_of_beq_eq_true (allB_spec (lit1t_row i hi) j hj)
  apply BitVec.eq_of_toNat_eq
  rw [h]
  cases odd (i &&& perm j) <;> rfl

end Cert.Trellis

end
-- ==== Proof.TableVal.lean ====
/- The kernel's two Hadamard tables, as real numbers. -/
module

public import proofs.«01_k».proof.Proof.Table0
public import proofs.«01_k».proof.Proof.Table1
public import proofs.«01_k».proof.Proof.Hadamard
public import Idealize.ShloMosaic.Lib.Pointwise

@[expose] public section

noncomputable section

namespace Cert.Trellis

open Idealize.ShloMosaic Cert.KernelIdeal

/-- The first table holds the scaled signs. -/
theorem lit0_val (i j : Fin 256) :
    Ideal.ofBits .bf16 (lit0 (S256x256.rowMajor (ix2 i j))) = ((hs i j * (1 / 16) : ℝ) : EReal) := by
  have e : lit0 (S256x256.rowMajor (ix2 i j)) = lit0t (i.val * 256 + j.val) := by
    show lit0t (S256x256.rowMajor (ix2 i j)).val = _
    rw [rowMajor_val2 (ix2 i j) 256 rfl]
    rfl
  rw [e, lit0t_eq _ _ i.isLt j.isLt, ofBits_sign]
  rfl

/-- The second table holds them with its columns permuted. -/
theorem lit1_val (i j : Fin 256) :
    Ideal.ofBits .bf16 (lit1 (S256x256.rowMajor (ix2 i j))) = ((hs i (perm j) * (1 / 16) : ℝ) : EReal) := by
  have e : lit1 (S256x256.rowMajor (ix2 i j)) = lit1t (i.val * 256 + j.val) := by
    show lit1t (S256x256.rowMajor (ix2 i j)).val = _
    rw [rowMajor_val2 (ix2 i j) 256 rfl]
    rfl
  rw [e, lit1t_eq _ _ i.isLt j.isLt, ofBits_sign]
  rfl

end Cert.Trellis

end
-- ==== Proof.KernelValue.lean ====
/- What the kernel's two results hold, as functions of its arguments. -/
module

public import proofs.«01_k».proof.Proof.Region1
public import proofs.«01_k».proof.Proof.TableVal
public import Idealize.ShloMosaic.Lib.StableHlo.Run

@[expose] public section

noncomputable section

namespace Cert.Trellis

open Idealize.ShloMosaic Idealize.ShloMosaic.TcCoe Idealize.ShloMosaic.Pipeline Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The first call reads the activations with their leading axis dropped. -/
theorem W1_v0 : W1 m ρ c (Proc.devRef .tc main_v0) = shapeCast S128x3584 (m ((c.tc : Thread nD τ).loc main_arg0)) shapeCasts_S1x128x3584_S128x3584 := by
  show StableHlo.after hostOps0 _ (Proc.devRef .tc main_v0) = _
  unfold hostOps0
  after_results
  rfl

/-- It reads the input signs as one row. -/
theorem W1_v1 : W1 m ρ c (Proc.devRef .tc main_v1) = shapeCast S1x3584 (m ((c.tc : Thread nD τ).loc main_arg3)) shapeCasts_S3584_S1x3584 := by
  show StableHlo.after hostOps0 _ (Proc.devRef .tc main_v1) = _
  unfold hostOps0
  after_results
  rfl

/-- It reads the first literal table. -/
theorem W1_cst : W1 m ρ c (Proc.devRef .tc main_cst) = fun i => Ideal.ofBits .bf16 (lit0 (S256x256.rowMajor i)) := by
  show StableHlo.after hostOps0 _ (Proc.devRef .tc main_cst) = _
  unfold hostOps0
  after_results
  rfl

/-- It reads the second literal table. -/
theorem W1_cst_0 : W1 m ρ c (Proc.devRef .tc main_cst_0) = fun i => Ideal.ofBits .bf16 (lit1 (S256x256.rowMajor i)) := by
  show StableHlo.after hostOps0 _ (Proc.devRef .tc main_cst_0) = _
  unfold hostOps0
  after_results
  rfl

/-- The second call reads the codes as they are given. -/
theorem W3_v3 : W3 m ρ c (Proc.devRef .tc main_v3) = m ((c.tc : Thread nD τ).loc main_arg1) := by
  have h : W3 m ρ c (Proc.devRef .tc main_v3) = W2 m ρ c (Proc.devRef .tc main_arg1) := by
    show StableHlo.after hostOps1 _ (Proc.devRef .tc main_v3) = _
    unfold hostOps1
    after_results
    rfl
  exact h.trans (W2_args m ρ c main_arg1 (by decide))

/-- It reads the row scales as one row. -/
theorem W3_v4 : W3 m ρ c (Proc.devRef .tc main_v4) = shapeCast S1x18944 (m ((c.tc : Thread nD τ).loc main_arg2)) shapeCasts_S18944_S1x18944 := by
  have h : W3 m ρ c (Proc.devRef .tc main_v4) = shapeCast S1x18944 (W2 m ρ c (Proc.devRef .tc main_arg2)) shapeCasts_S18944_S1x18944 := by
    show StableHlo.after hostOps1 _ (Proc.devRef .tc main_v4) = _
    unfold hostOps1
    after_results
    rfl
  exact h.trans (by rw [W2_args m ρ c main_arg2 (by decide)])

/-- It reads the output signs as one row. -/
theorem W3_v5 : W3 m ρ c (Proc.devRef .tc main_v5) = shapeCast S1x18944 (m ((c.tc : Thread nD τ).loc main_arg4)) shapeCasts_S18944_S1x18944 := by
  have h : W3 m ρ c (Proc.devRef .tc main_v5) = shapeCast S1x18944 (W2 m ρ c (Proc.devRef .tc main_arg4)) shapeCasts_S18944_S1x18944 := by
    show StableHlo.after hostOps1 _ (Proc.devRef .tc main_v5) = _
    unfold hostOps1
    after_results
    rfl
  exact h.trans (by rw [W2_args m ρ c main_arg4 (by decide)])

/-- It reads the first literal table. -/
theorem W3_cst : W3 m ρ c (Proc.devRef .tc main_cst) = W1 m ρ c (Proc.devRef .tc main_cst) :=
  (W3_of m ρ c main_cst (by decide)).trans (W2_of m ρ c main_cst (by decide))

/-- It reads the second output of the first call. -/
theorem W3_v2_1 : W3 m ρ c (Proc.devRef .tc main_v2_1) = (dat0 (V1 m ρ) c).arrAt 5 cfg0.N :=
  (W3_of m ρ c main_v2_1 (by decide)).trans (W2_arr m ρ c 5)

/-- The first result is the second call's output with a leading axis added. -/
theorem W5_v7 : W5 m ρ c (Proc.devRef .tc main_v7) = shapeCast S1x128x18944 ((dat1 (V3 m ρ) c).arrAt 5 cfg1.N) shapeCasts_S128x18944_S1x128x18944 := by
  have h : W5 m ρ c (Proc.devRef .tc main_v7) = shapeCast S1x128x18944 (W4 m ρ c (Proc.devRef .tc main_v6)) shapeCasts_S128x18944_S1x128x18944 := by
    show StableHlo.after hostOps2 _ (Proc.devRef .tc main_v7) = _
    unfold hostOps2
    after_results
    rfl
  exact h.trans (by rw [← W4_arr m ρ c 5])

/-- The second result is the first call's first output with a leading axis added. -/
theorem W5_v8 : W5 m ρ c (Proc.devRef .tc main_v8) = shapeCast S1x128x3584 ((dat0 (V1 m ρ) c).arrAt 4 cfg0.N) shapeCasts_S128x3584_S1x128x3584 := by
  have h : W5 m ρ c (Proc.devRef .tc main_v8) = shapeCast S1x128x3584 (W4 m ρ c (Proc.devRef .tc main_v2_0)) shapeCasts_S128x3584_S1x128x3584 := by
    show StableHlo.after hostOps2 _ (Proc.devRef .tc main_v8) = _
    unfold hostOps2
    after_results
    rfl
  refine h.trans ?_
  rw [← W2_arr m ρ c 4, W4_of m ρ c main_v2_0 (by decide), W3_of m ρ c main_v2_0 (by decide)]

/-- Dropping the leading axis of the activations, at coordinates. -/
theorem drop_x (v : S1x128x3584.Idx → EReal) (r : Fin 128) (d : Fin 3584) :
    shapeCast S128x3584 v shapeCasts_S1x128x3584_S128x3584 (ix2 r d) = v (ix3 0 r d) := by pointwise
/-- The input signs as one row, at coordinates. -/
theorem add_su (v : S3584.Idx → EReal) (d : Fin 3584) :
    shapeCast S1x3584 v shapeCasts_S3584_S1x3584 (ix2 0 d) = v (ix1 d) := by pointwise
/-- A vector over the output columns as one row, at coordinates. -/
theorem add_n (v : S18944.Idx → EReal) (n : Fin 18944) :
    shapeCast S1x18944 v shapeCasts_S18944_S1x18944 (ix2 0 n) = v (ix1 n) := by pointwise
/-- Adding a leading axis to the first result, at coordinates. -/
theorem add_y (v : S128x18944.Idx → EReal) (r : Fin 128) (n : Fin 18944) :
    shapeCast S1x128x18944 v shapeCasts_S128x18944_S1x128x18944 (ix3 0 r n) = v (ix2 r n) := by pointwise
/-- Adding a leading axis to the second result, at coordinates. -/
theorem add_x (v : S128x3584.Idx → EReal) (r : Fin 128) (d : Fin 3584) :
    shapeCast S1x128x3584 v shapeCasts_S128x3584_S1x128x3584 (ix3 0 r d) = v (ix2 r d) := by pointwise

/-- The first table: the signs over sixteen. -/
def tab (i j : Fin 256) : ℝ := hs i j * (1 / 16)
/-- The second table: the first with its columns permuted. -/
def tabP (i j : Fin 256) : ℝ := hs i (perm j) * (1 / 16)

/-- The kernel's second result and its first, from real arguments. -/
theorem kernel_values (x : Fin 128 → Fin 3584 → ℝ) (su : Fin 3584 → ℝ) (rs : Fin 18944 → ℝ)
    (hx : ∀ r d, m ((c.tc : Thread nD τ).loc main_arg0) (ix3 0 r d) = ((x r d : ℝ) : EReal))
    (hsu : ∀ d, m ((c.tc : Thread nD τ).loc main_arg3) (ix1 d) = ((su d : ℝ) : EReal))
    (hrs : ∀ n, m ((c.tc : Thread nD τ).loc main_arg2) (ix1 n) = ((rs n : ℝ) : EReal)) :
    (∀ r n, W5 m ρ c (Proc.devRef .tc main_v7) (ix3 0 r n)
      = yOf (accOf (rotOf (fun r d => x r d * su d) tabP) (fun n k => m ((c.tc : Thread nD τ).loc main_arg1) (ix2 n k))) rs tab
          (fun n => m ((c.tc : Thread nD τ).loc main_arg4) (ix1 n)) r n)
    ∧ ∀ r d, W5 m ρ c (Proc.devRef .tc main_v8) (ix3 0 r d) = ((rotOf (fun r d => x r d * su d) tab r d : ℝ) : EReal) := by
  have h0 : ∀ r d, V1 m ρ c main_v0 (ix2 r d) = ((x r d : ℝ) : EReal) := fun r d =>
    (congrFun (W1_v0 m ρ c) _).trans ((drop_x _ r d).trans (hx r d))
  have h1 : ∀ d, V1 m ρ c main_v1 (ix2 0 d) = ((su d : ℝ) : EReal) := fun d =>
    (congrFun (W1_v1 m ρ c) _).trans ((add_su _ d).trans (hsu d))
  have hc : ∀ i j, V1 m ρ c main_cst (ix2 i j) = ((tab i j : ℝ) : EReal) := fun i j =>
    (congrFun (W1_cst m ρ c) _).trans (lit0_val i j)
  have hc0 : ∀ i j, V1 m ρ c main_cst_0 (ix2 i j) = ((tabP i j : ℝ) : EReal) := fun i j =>
    (congrFun (W1_cst_0 m ρ c) _).trans (lit1_val i j)
  have a4 := arr0_4 (V1 m ρ) c x su tab h0 h1 hc
  have a5 := arr0_5 (V1 m ρ) c x su tabP h0 h1 hc0
  constructor
  · intro r n
    have b5 := arr1_5 (V3 m ρ) c (rotOf (fun r d => x r d * su d) tabP) (fun n k => m ((c.tc : Thread nD τ).loc main_arg1) (ix2 n k))
      rs tab (fun n => m ((c.tc : Thread nD τ).loc main_arg4) (ix1 n))
      (fun r d => (congrFun ((W3_v2_1 m ρ c).trans a5) _))
      (fun n k => congrFun (W3_v3 m ρ c) _)
      (fun n => (congrFun (W3_v4 m ρ c) _).trans ((add_n _ n).trans (hrs n)))
      (fun n => (congrFun (W3_v5 m ρ c) _).trans (add_n _ n))
      (fun i j => (congrFun (W3_cst m ρ c) _).trans (hc i j))
    rw [W5_v7, b5]
    exact add_y _ r n
  · intro r d
    rw [W5_v8, a4]
    exact add_x _ r d

end Cert.Trellis

end
-- ==== Proof.Equation.lean ====
/- The reference's results at real arguments, as the same functions that the kernel's results are. -/
module

public import proofs.«01_k».proof.Proof.RefVal
public import proofs.«01_k».proof.Proof.KernelValue

@[expose] public section

noncomputable section

namespace Cert.Trellis

open Idealize.ShloMosaic

/-- Exchanging the two base-16 digits of a number below 256, as a rearrangement of those numbers. -/
def permEquiv : Fin 256 ≃ Fin 256 where
  toFun k := ⟨perm k.val, by have := k.isLt; unfold perm; omega⟩
  invFun k := ⟨perm k.val, by have := k.isLt; unfold perm; omega⟩
  left_inv k := Fin.ext (by have := k.isLt; show perm (perm k.val) = k.val; unfold perm; omega)
  right_inv k := Fin.ext (by have := k.isLt; show perm (perm k.val) = k.val; unfold perm; omega)

/-- A column rotated by the permuted table is the permuted column of the rotation. -/
theorem rotOf_tabP (U : Fin 128 → Fin 3584 → ℝ) (r : Fin 128) (g : Fin 14) (k : Fin 256) :
    rotOf U tabP r ⟨256 * g.val + k.val, by omega⟩
      = rotOf U tab r ⟨256 * g.val + perm k.val, by have := k.isLt; unfold perm; omega⟩ := by
  have hp : perm k.val < 256 := by have := k.isLt; unfold perm; omega
  have h1 : (256 * g.val + k.val) / 256 = g.val := by omega
  have h2 : (256 * g.val + k.val) % 256 = k.val := by omega
  have h3 : (256 * g.val + perm k.val) / 256 = g.val := by omega
  have h4 : (256 * g.val + perm k.val) % 256 = perm k.val := by omega
  unfold rotOf tabP tab
  simp only [h1, h2, h3, h4]

/-- The product with the permuted activations is the product, over the input columns in their order, of the activations
    with the weights as the codes lay them out: field `d % 16` of word `d / 16`. -/
theorem accOf_eq (U : Fin 128 → Fin 3584 → ℝ) (C : Fin 18944 → Fin 224 → BitVec 32) (r : Fin 128) (n : Fin 18944) :
    accOf (rotOf U tabP) C r n = ∑ d : Fin 3584, rotOf U tab r d
      * wreal (state (C n ⟨d.val / 16, by omega⟩) (C n ⟨16 * (d.val / 16 / 16) + (d.val / 16 % 16 + 1) % 16, by omega⟩) (d.val % 16)) := by
  rw [Fin.sum_univ_tiles 14 256 rfl]
  unfold accOf
  refine Finset.sum_congr rfl fun g _ => ?_
  refine Eq.trans ?_ (Equiv.sum_comp permEquiv _)
  refine Finset.sum_congr rfl fun k _ => ?_
  have hk := k.isLt
  have hd : g.val * 256 + (permEquiv k).val = 256 * g.val + perm k.val := by
    show g.val * 256 + perm k.val = _
    omega
  have h1 : (256 * g.val + perm k.val) / 16 = 16 * g.val + k.val % 16 := by unfold perm; omega
  have h2 : (256 * g.val + perm k.val) % 16 = k.val / 16 := by unfold perm; omega
  have h3 : 16 * ((16 * g.val + k.val % 16) / 16) + ((16 * g.val + k.val % 16) % 16 + 1) % 16
      = 16 * g.val + (k.val % 16 + 1) % 16 := by omega
  rw [rotOf_tabP]
  unfold tileW
  simp only [hd, h1, h2, h3]

/-- A sum of reals with the factor 1/16 moved inside. -/
theorem sum_sixteenth (f g : Fin 256 → ℝ) (a : EReal) (ha : a = ((1 / 16 : ℝ) : EReal)) :
    (∑ k, ((f k : ℝ) : EReal) * ((g k : ℝ) : EReal)) * a = ((∑ k, f k * (g k * (1 / 16)) : ℝ) : EReal) := by
  simp only [← EReal.coe_mul]
  rw [coe_sum, ha, ← EReal.coe_mul, Finset.sum_mul]
  simp only [mul_assoc]

open Cert.ReferenceIdeal Cert.ReferenceIdeal.Gen

section
variable (X : FVec Ideal S1x128x3584 .bf16) (C : IVec S18944x224 32) (RS SV : FVec Ideal S18944 .f32) (SU : FVec Ideal S3584 .f32)
  (x : Fin 128 → Fin 3584 → ℝ) (su : Fin 3584 → ℝ) (rs : Fin 18944 → ℝ)
  (hx : ∀ r d, X (ix3 0 r d) = ((x r d : ℝ) : EReal)) (hsu : ∀ d, SU (ix1 d) = ((su d : ℝ) : EReal))
  (hrs : ∀ n, RS (ix1 n) = ((rs n : ℝ) : EReal))

include hx hsu in
/-- The reference's rotated activations. -/
theorem ref_xr (r : Fin 128) (d : Fin 3584) :
    Ref.xr X SU Ref.had (ix3 0 r d) = ((rotOf (fun r d => x r d * su d) tab r d : ℝ) : EReal) := by
  rw [Ref.xr_apply]
  simp only [hx, hsu, Ref.had_apply, ← EReal.coe_mul]
  simp only [EReal.coe_mul _ (hs _ _)]
  rw [sum_sixteenth _ _ _ ofBits_sixteenth_f32]
  unfold rotOf tab
  simp only [hs_comm (d.val % 256)]

include hx hsu in
/-- The reference's product. -/
theorem ref_acc (r : Fin 128) (n : Fin 18944) :
    Ref.prod (Ref.xr X SU Ref.had) (Ref.weights (Ref.codeWords (Ref.states C (Ref.next C) Ref.offs))) (ix3 0 r n)
      = ((accOf (rotOf (fun r d => x r d * su d) tabP) (fun n k => C (ix2 n k)) r n : ℝ) : EReal) := by
  rw [Ref.prod_apply, accOf_eq, ← coe_sum]
  refine Finset.sum_congr rfl fun d _ => ?_
  rw [ref_xr X SU x su hx hsu, Ref.weights_apply, Ref.states_apply _ _ _ _ _ _ (Ref.offs_apply _), Ref.next_apply, weight_eq,
    ← EReal.coe_mul]

include hx hsu hrs in
/-- The reference's first result. -/
theorem ref_y (r : Fin 128) (n : Fin 18944) :
    Ref.y (Ref.prod (Ref.xr X SU Ref.had) (Ref.weights (Ref.codeWords (Ref.states C (Ref.next C) Ref.offs)))) RS SV Ref.had (ix3 0 r n)
      = yOf (accOf (rotOf (fun r d => x r d * su d) tabP) (fun n k => C (ix2 n k))) rs tab (fun n => SV (ix1 n)) r n := by
  rw [Ref.y_apply]
  simp only [ref_acc X C SU x su hx hsu, hrs, Ref.had_apply, ← EReal.coe_mul]
  simp only [EReal.coe_mul _ (hs _ _)]
  rw [sum_sixteenth _ _ _ ofBits_sixteenth_f32]
  unfold yOf tab
  simp only [hs_comm (n.val % 256)]

end

end Cert.Trellis

end
-- ==== Proof.Finite.lean ====
/- What the precondition says: the activations, the row scales and the input signs are real numbers. -/
module

public import proofs.«01_k».proof.Defs
public import proofs.«01_k».proof.Proof.Gen.Pre_finite_inputs
public import Idealize.ShloMosaic.Lib.Pointwise

@[expose] public section

noncomputable section

namespace Cert.Trellis.Finite

open Idealize.ShloMosaic Cert.Pre_finite_inputs Cert.Pre_finite_inputs.Gen

/-- The bf16 pattern `0x7F80` is infinity. -/
theorem inf_bf16 : Ideal.ofBits .bf16 0x7F80#16 = ⊤ := by simp [Ideal.ofBits, Ideal.ieee]

/-- The f32 pattern `0x7F800000` is infinity. -/
theorem inf_f32 : Ideal.ofBits .f32 0x7F800000#32 = ⊤ := by simp [Ideal.ofBits, Ideal.ieee]

/-- A value whose size is below infinity is a real number. -/
theorem real_of_lt (v a b : EReal) (ha : a = max v (-v)) (hb : b = ⊤) (h : BitVec.ofBool (decide (a < b)) = 1#1) :
    v = ((v.toReal : ℝ) : EReal) := by
  subst ha hb
  have h' : max v (-v) < ⊤ := by
    by_contra hn
    rw [decide_eq_false hn] at h
    exact absurd h (by decide)
  refine (EReal.coe_toReal (lt_of_le_of_lt (le_max_left _ _) h').ne fun hv => ?_).symm
  rw [hv] at h'
  simp at h'

variable (x : FVec Ideal S1x128x3584 .bf16) (codes : IVec S18944x224 32) (rs sv : FVec Ideal S18944 .f32) (su : FVec Ideal S3584 .f32)

/-- Under the precondition every activation is a real number. -/
theorem x_real (h : (fn (F := Ideal) x codes rs su sv).1 = fun _ => 1#1) (r : Fin 128) (d : Fin 3584) :
    x (ix3 0 r d) = (((x (ix3 0 r d)).toReal : ℝ) : EReal) := by
  have h1 := congrFun h (ix3 0 r d)
  revert h1
  pointwise [fn]
  exact fun h1 => real_of_lt _ _ _ rfl inf_bf16 h1

/-- Under the precondition every row scale is a real number. -/
theorem rs_real (h : (fn (F := Ideal) x codes rs su sv).2.1 = fun _ => 1#1) (n : Fin 18944) :
    rs (ix1 n) = (((rs (ix1 n)).toReal : ℝ) : EReal) := by
  have h1 := congrFun h (ix1 n)
  revert h1
  pointwise [fn]
  exact fun h1 => real_of_lt _ _ _ rfl inf_f32 h1

/-- Under the precondition every input sign is a real number. -/
theorem su_real (h : (fn (F := Ideal) x codes rs su sv).2.2 = fun _ => 1#1) (d : Fin 3584) :
    su (ix1 d) = (((su (ix1 d)).toReal : ℝ) : EReal) := by
  have h1 := congrFun h (ix1 d)
  revert h1
  pointwise [fn]
  exact fun h1 => real_of_lt _ _ _ rfl inf_f32 h1

end Cert.Trellis.Finite

end
-- ==== Proof.KernelRun.lean ====
/- The run of the kernel's two calls, with what its two results hold at the end. -/
module

public import proofs.«01_k».proof.Proof.Gen.KernelIdeal.Frame

@[expose] public section

set_option maxRecDepth 16384

noncomputable section

namespace Cert.Trellis

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the two results at what the fold through the program gives them, and the arguments as
    they were. -/
theorem run_results : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v7 (by decide)), h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.Trellis

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import Idealize.ShloMosaic.Adequacy
public import Idealize.ShloMosaic.Init
public import Idealize.ShloMosaic.Lib.Quiescent
public import proofs.«01_k».proof.Proof.Equation
public import proofs.«01_k».proof.Proof.Finite
public import proofs.«01_k».proof.Proof.KernelRun

@[expose] public section

noncomputable section

namespace Cert.Proof

open Idealize.ShloMosaic Idealize.SL.Sem Cert.Kernel

/-- The reference leaves its arguments as they were and has no semaphores. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Two arrays of shape 1 × a × b are equal if they are equal at every pair of coordinates. -/
theorem ext3 {a b : ℕ} {α : Type} {f g : Shape.Idx ⟨3, ![1, a, b]⟩ → α} (h : ∀ r n, f (ix3 0 r n) = g (ix3 0 r n)) : f = g := by
  funext i
  have hi : i = ix3 0 (i 1) (i 2) := by
    funext k
    fin_cases k
    · exact Subsingleton.elim (α := Fin 1) _ _
    · rfl
    · rfl
  rw [hi]
  exact h _ _

/-- With finite activations, row scales and input signs, the kernel and the reference end with equal results. -/
theorem algebraic : Cert.algebraic_KernelIdeal_ReferenceIdeal_pre_finite_inputs := by
  intro m ρ m' ρ' hpre hagree
  refine ⟨fun c => Cert.KernelIdeal.Gen.W5 m ρ c (Proc.devRef .tc Cert.KernelIdeal.main_v7),
    fun c => Cert.KernelIdeal.Gen.W5 m ρ c (Proc.devRef .tc Cert.KernelIdeal.main_v8), Cert.Trellis.run_results m ρ, ?_⟩
  refine (θ_run Cert.ReferenceIdeal.defs _ _).mono (fun r h c => ?_) (Cert.ReferenceIdeal.Value.run (F := Ideal) m' ρ')
  obtain ⟨hy, hxr, hargs⟩ := h c
  obtain ⟨e0, e1, e2, e3, e4⟩ := hagree c
  obtain ⟨p0, p2, p3⟩ := hpre c
  have hx := Cert.Trellis.Finite.x_real _ _ _ _ _ p0
  have hrs := Cert.Trellis.Finite.rs_real _ _ _ _ _ p2
  have hsu := Cert.Trellis.Finite.su_real _ _ _ _ _ p3
  obtain ⟨ky, kx⟩ := Cert.Trellis.kernel_values m ρ c _ _ _ hx hsu hrs
  refine ⟨hy.trans ?_, hxr.trans ?_, hargs⟩
  · rw [Cert.Trellis.Ref.res_eq, e0, e1, e2, e3, e4]
    exact ext3 fun r n => (Cert.Trellis.ref_y _ _ _ _ _ _ _ _ hx hsu hrs r n).trans (ky r n).symm
  · rw [e0, e3]
    exact ext3 fun r d => (Cert.Trellis.ref_xr _ _ _ _ hx hsu r d).trans (kx r d).symm

/-- Everything that is claimed. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ, trivial, algebraic⟩

end Cert.Proof

end
